-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_codebooks [hPre_finite_codebooks : Cert.Pre_finite_codebooks.Facts] (m : (ℓ : Loc Cert.KernelIdeal.nD Cert.KernelIdeal.τ Cert.KernelIdeal.sig) → Buf (Elt Ideal) ℓ) : Prop :=
  ∀ c : Dev Cert.KernelIdeal.nD,
    (Cert.Pre_finite_codebooks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_codebooks [hPre_finite_codebooks : Cert.Pre_finite_codebooks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_codebooks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_codebooks [hKernelIdeal : Cert.KernelIdeal.Facts] [hPre_finite_codebooks : Cert.Pre_finite_codebooks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_codebooks m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_codebooks [hReferenceIdeal : Cert.ReferenceIdeal.Facts] [hPre_finite_codebooks : Cert.Pre_finite_codebooks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_codebooks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_codebooks [hKernelIdeal : Cert.KernelIdeal.Facts] [hReferenceIdeal : Cert.ReferenceIdeal.Facts] [hPre_finite_codebooks : Cert.Pre_finite_codebooks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_codebooks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_codebooks : Cert.Pre_finite_codebooks.Facts),
    quiescent_Kernel (hKernel := hKernel)
    ∧ quiescent_KernelIdeal (hKernelIdeal := hKernelIdeal)
    ∧ quiescent_KernelIdeal_pre_finite_codebooks (hKernelIdeal := hKernelIdeal) (hPre_finite_codebooks := hPre_finite_codebooks)
    ∧ quiescent_ReferenceIdeal (hReferenceIdeal := hReferenceIdeal)
    ∧ quiescent_ReferenceIdeal_pre_finite_codebooks (hReferenceIdeal := hReferenceIdeal) (hPre_finite_codebooks := hPre_finite_codebooks)
    ∧ preserves_Kernel_KernelIdeal
    ∧ algebraic_KernelIdeal_ReferenceIdeal_pre_finite_codebooks (hKernelIdeal := hKernelIdeal) (hReferenceIdeal := hReferenceIdeal) (hPre_finite_codebooks := hPre_finite_codebooks)
-- ==== Pre_finite_codebooks.lean ====
abbrev S4096x768 : Shape := ⟨2, ![4096, 768]⟩
abbrev S768x256 : Shape := ⟨2, ![768, 256]⟩
abbrev S256 : Shape := ⟨1, ![256]⟩
abbrev S4x1024x256 : Shape := ⟨3, ![4, 1024, 256]⟩
abbrev S4x256 : Shape := ⟨2, ![4, 256]⟩
abbrev S3x1024x256 : Shape := ⟨3, ![3, 1024, 256]⟩
abbrev S_ : Shape := ⟨0, ![]⟩

class Facts : Prop where
  slices_S4x1024x256_S3x1024x256_0_0_0 : S4x1024x256.Slices ![0, 0, 0] S3x1024x256
  bcast_S_S3x1024x256 : S_.BroadcastsInDim S3x1024x256 (![] : Fin 0 → Fin S3x1024x256.rank)

variable [Facts]

def fn {F : FTy → Type} [FloatOps F] (main_arg0 : FVec F S4096x768 .f32) (main_arg1 : FVec F S768x256 .f32) (main_arg2 : FVec F S256 .f32) (main_arg3 : FVec F S4x1024x256 .f32) (main_arg4 : FVec F S4x256 .f32) (main_arg5 : FVec F S256 .f32) : IVec S3x1024x256 1 :=
  let main_v0 : FVec F S3x1024x256 .f32 := (extractStridedSlice S3x1024x256 ![0, 0, 0] · slices_S4x1024x256_S3x1024x256_0_0_0) main_arg3
  let main_v1 : FVec F S3x1024x256 .f32 := Host.absf main_v0
  let main_cst : FVec F S_ .f32 := constant S_ .f32 0x7F800000#32
  let main_v2 : FVec F S3x1024x256 .f32 := broadcastInDim S3x1024x256 ![] bcast_S_S3x1024x256 main_cst
  let main_v3 : IVec S3x1024x256 1 := cmpf .olt main_v1 main_v2
  main_v3
-- ==== Kernel.lean ====
abbrev S4096x768 : Shape := ⟨2, ![4096, 768]⟩
abbrev S768x256 : Shape := ⟨2, ![768, 256]⟩
abbrev S256 : Shape := ⟨1, ![256]⟩
abbrev S4x1024x256 : Shape := ⟨3, ![4, 1024, 256]⟩
abbrev S4x256 : Shape := ⟨2, ![4, 256]⟩
abbrev S1x256 : Shape := ⟨2, ![1, 256]⟩
abbrev S1x1024x256 : Shape := ⟨3, ![1, 1024, 256]⟩
abbrev S1024x256 : Shape := ⟨2, ![1024, 256]⟩
abbrev S_ : Shape := ⟨0, ![]⟩
abbrev S1024 : Shape := ⟨1, ![1024]⟩
abbrev S1x1024 : Shape := ⟨2, ![1, 1024]⟩
abbrev S4x1024 : Shape := ⟨2, ![4, 1024]⟩
abbrev S4096x4 : Shape := ⟨2, ![4096, 4]⟩
abbrev S4096x256 : Shape := ⟨2, ![4096, 256]⟩
abbrev S1024x768 : Shape := ⟨2, ![1024, 768]⟩
abbrev S1024x4 : Shape := ⟨2, ![1024, 4]⟩
abbrev S1024x1024 : Shape := ⟨2, ![1024, 1024]⟩
abbrev S256x1024 : Shape := ⟨2, ![256, 1024]⟩
abbrev S8x1024 : Shape := ⟨2, ![8, 1024]⟩
abbrev S2x1024 : Shape := ⟨2, ![2, 1024]⟩
abbrev S1024x1 : Shape := ⟨2, ![1024, 1]⟩

abbrev nBuf : Space → Nat
  | .hbm => 46
  | .vmem => 12
  | .smem => 0
  | _ => 0

abbrev bufTy : (tb : Table) → Fin (tcTables nBuf tb) → BufTy
  | .hbm, ⟨0, _⟩ => ⟨S4096x768, .f32⟩
  | .hbm, ⟨1, _⟩ => ⟨S768x256, .f32⟩
  | .hbm, ⟨2, _⟩ => ⟨S256, .f32⟩
  | .hbm, ⟨3, _⟩ => ⟨S4x1024x256, .f32⟩
  | .hbm, ⟨4, _⟩ => ⟨S4x256, .f32⟩
  | .hbm, ⟨5, _⟩ => ⟨S256, .f32⟩
  | .hbm, ⟨6, _⟩ => ⟨S1x256, .f32⟩
  | .hbm, ⟨7, _⟩ => ⟨S1x1024x256, .f32⟩
  | .hbm, ⟨8, _⟩ => ⟨S1024x256, .f32⟩
  | .hbm, ⟨9, _⟩ => ⟨S1x1024x256, .f32⟩
  | .hbm, ⟨10, _⟩ => ⟨S1024x256, .f32⟩
  | .hbm, ⟨11, _⟩ => ⟨S1024x256, .f32⟩
  | .hbm, ⟨12, _⟩ => ⟨S_, .f32⟩
  | .hbm, ⟨13, _⟩ => ⟨S1024, .f32⟩
  | .hbm, ⟨14, _⟩ => ⟨S1x1024x256, .f32⟩
  | .hbm, ⟨15, _⟩ => ⟨S1024x256, .f32⟩
  | .hbm, ⟨16, _⟩ => ⟨S1x1024x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024, .f32⟩
  | .hbm, ⟨21, _⟩ => ⟨S1x1024x256, .f32⟩
  | .hbm, ⟨22, _⟩ => ⟨S1024x256, .f32⟩
  | .hbm, ⟨23, _⟩ => ⟨S1x1024x256, .f32⟩
  | .hbm, ⟨24, _⟩ => ⟨S1024x256, .f32⟩
  | .hbm, ⟨25, _⟩ => ⟨S1024x256, .f32⟩
  | .hbm, ⟨26, _⟩ => ⟨S_, .f32⟩
  | .hbm, ⟨27, _⟩ => ⟨S1024, .f32⟩
  | .hbm, ⟨28, _⟩ => ⟨S1x1024x256, .f32⟩
  | .hbm, ⟨29, _⟩ => ⟨S1024x256, .f32⟩
  | .hbm, ⟨30, _⟩ => ⟨S1x1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S4x1024, .f32⟩
  | .hbm, ⟨40, _⟩ => ⟨S4096x4, .i32⟩
  | .hbm, ⟨41, _⟩ => ⟨S4096x4, .f32⟩
  | .hbm, ⟨42, _⟩ => ⟨S4096x256, .f32⟩
  | .hbm, ⟨43, _⟩ => ⟨S1x256, .f32⟩
  | .hbm, ⟨44, _⟩ => ⟨S4096x256, .f32⟩
  | .hbm, ⟨45, _⟩ => ⟨S4096x256, .f32⟩
  | .local _ .vmem, ⟨0, _⟩ => ⟨S1024x768, .f32⟩
  | .local _ .vmem, ⟨1, _⟩ => ⟨S1024x768, .f32⟩
  | .local _ .vmem, ⟨2, _⟩ => ⟨S768x256, .f32⟩
  | .local _ .vmem, ⟨3, _⟩ => ⟨S1x256, .f32⟩
  | .local _ .vmem, ⟨4, _⟩ => ⟨S4x1024x256, .f32⟩
  | .local _ .vmem, ⟨5, _⟩ => ⟨S4x1024, .f32⟩
  | .local _ .vmem, ⟨6, _⟩ => ⟨S1024x4, .i32⟩
  | .local _ .vmem, ⟨7, _⟩ => ⟨S1024x4, .i32⟩
  | .local _ .vmem, ⟨8, _⟩ => ⟨S4x1024x256, .bf16⟩
  | .local _ .vmem, ⟨9, _⟩ => ⟨S4x1024x256, .bf16⟩
  | .local _ .vmem, ⟨10, _⟩ => ⟨S4x1024x256, .bf16⟩
  | .local _ .vmem, ⟨11, _⟩ => ⟨S4x1024x256, .bf16⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_cst : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_cst_0 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_call0_cst_1 : Ref sig .tc := ⟨.hbm, 26, rfl⟩
abbrev main_call0_v17 : Ref sig .tc := ⟨.hbm, 27, rfl⟩
abbrev main_call0_v18 : Ref sig .tc := ⟨.hbm, 28, rfl⟩
abbrev main_call0_v19 : Ref sig .tc := ⟨.hbm, 29, rfl⟩
abbrev main_call0_v20 : Ref sig .tc := ⟨.hbm, 30, rfl⟩
abbrev main_call0_v21 : Ref sig .tc := ⟨.hbm, 31, rfl⟩
abbrev main_call0_v22 : Ref sig .tc := ⟨.hbm, 32, rfl⟩
abbrev main_call0_cst_2 : Ref sig .tc := ⟨.hbm, 33, rfl⟩
abbrev main_call0_v23 : Ref sig .tc := ⟨.hbm, 34, rfl⟩
abbrev main_call0_v24 : Ref sig .tc := ⟨.hbm, 35, rfl⟩
abbrev main_call0_v25 : Ref sig .tc := ⟨.hbm, 36, rfl⟩
abbrev main_call0_v26 : Ref sig .tc := ⟨.hbm, 37, rfl⟩
abbrev main_call0_v27 : Ref sig .tc := ⟨.hbm, 38, rfl⟩
abbrev main_call0_v28 : Ref sig .tc := ⟨.hbm, 39, rfl⟩
abbrev main_v1_1 : Ref sig .tc := ⟨.hbm, 40, rfl⟩
abbrev main_call0_v30 : Ref sig .tc := ⟨.hbm, 41, rfl⟩
abbrev main_call0_v31 : Ref sig .tc := ⟨.hbm, 42, rfl⟩
abbrev main_call0_v32 : Ref sig .tc := ⟨.hbm, 43, rfl⟩
abbrev main_call0_v33 : Ref sig .tc := ⟨.hbm, 44, rfl⟩
abbrev main_v1_0 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x4 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4096x768 : Shape := ⟨2, ![4096, 768]⟩
abbrev S768x256 : Shape := ⟨2, ![768, 256]⟩
abbrev S256 : Shape := ⟨1, ![256]⟩
abbrev S4x1024x256 : Shape := ⟨3, ![4, 1024, 256]⟩
abbrev S4x256 : Shape := ⟨2, ![4, 256]⟩
abbrev S4096x256 : Shape := ⟨2, ![4096, 256]⟩
abbrev S1x256 : Shape := ⟨2, ![1, 256]⟩
abbrev S1x1024x256 : Shape := ⟨3, ![1, 1024, 256]⟩
abbrev S1024x256 : Shape := ⟨2, ![1024, 256]⟩
abbrev S_ : Shape := ⟨0, ![]⟩
abbrev S4096 : Shape := ⟨1, ![4096]⟩
abbrev S4096x1 : Shape := ⟨2, ![4096, 1]⟩
abbrev S256x1024 : Shape := ⟨2, ![256, 1024]⟩
abbrev S4096x1024 : Shape := ⟨2, ![4096, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S4096x4 : Shape := ⟨2, ![4096, 4]⟩

abbrev nBuf : Space → Nat
  | .hbm => 212
  | .vmem => 0
  | .smem => 0
  | _ => 0

abbrev hbmTy0_0 (i : Nat) : BufTy := match i % 128 with
  | 0 => ⟨S4096x768, .f32⟩
  | 1 => ⟨S768x256, .f32⟩
  | 2 => ⟨S256, .f32⟩
  | 3 => ⟨S4x1024x256, .f32⟩
  | 4 => ⟨S4x256, .f32⟩
  | 5 => ⟨S256, .f32⟩
  | 6 => ⟨S4096x256, .f32⟩
  | 7 => ⟨S1x256, .f32⟩
  | 8 => ⟨S4096x256, .f32⟩
  | 9 => ⟨S4096x256, .f32⟩
  | 10 => ⟨S1x1024x256, .f32⟩
  | 11 => ⟨S1024x256, .f32⟩
  | 12 => ⟨S4096x256, .f32⟩
  | 13 => ⟨S_, .f32⟩
  | 14 => ⟨S4096, .f32⟩
  | 15 => ⟨S4096x1, .f32⟩
  | 16 => ⟨S256x1024, .f32⟩
  | 17 => ⟨S4096x1024, .f32⟩
  | 18 => ⟨S_, .f32⟩
  | 19 => ⟨S4096x1024, .f32⟩
  | 20 => ⟨S4096x1024, .f32⟩
  | 21 => ⟨S4096x1024, .f32⟩
  | 22 => ⟨S4096x1024, .f32⟩
  | 23 => ⟨S1024x256, .f32⟩
  | 24 => ⟨S_, .f32⟩
  | 25 => ⟨S1024, .f32⟩
  | 26 => ⟨S1x1024, .f32⟩
  | 27 => ⟨S4096x1024, .f32⟩
  | 28 => ⟨S4096x1024, .f32⟩
  | 29 => ⟨S4096x1024, .i32⟩
  | 30 => ⟨S_, .f32⟩
  | 31 => ⟨S_, .i32⟩
  | 32 => ⟨S4096, .f32⟩
  | 33 => ⟨S4096, .i32⟩
  | 34 => ⟨S_, .i32⟩
  | 35 => ⟨S4096, .i32⟩
  | 36 => ⟨S4096, .i1⟩
  | 37 => ⟨S_, .i32⟩
  | 38 => ⟨S4096, .i32⟩
  | 39 => ⟨S4096, .i32⟩
  | 40 => ⟨S4096, .i32⟩
  | 41 => ⟨S4096x1, .i32⟩
  | 42 => ⟨S1, .i32⟩
  | 43 => ⟨S_, .i32⟩
  | 44 => ⟨S4096x1, .i32⟩
  | 45 => ⟨S4096x1, .i1⟩
  | 46 => ⟨S1x1, .i32⟩
  | 47 => ⟨S4096x1, .i32⟩
  | 48 => ⟨S4096x1, .i1⟩
  | 49 => ⟨S4096x1, .i1⟩
  | 50 => ⟨S_, .i1⟩
  | 51 => ⟨S4096, .i1⟩
  | 52 => ⟨S4096x256, .f32⟩
  | 53 => ⟨S4096x256, .i1⟩
  | 54 => ⟨S_, .f32⟩
  | 55 => ⟨S4096x256, .f32⟩
  | 56 => ⟨S4096x256, .f32⟩
  | 57 => ⟨S4096x256, .f32⟩
  | 58 => ⟨S1x1024x256, .f32⟩
  | 59 => ⟨S1024x256, .f32⟩
  | 60 => ⟨S4096x256, .f32⟩
  | 61 => ⟨S_, .f32⟩
  | 62 => ⟨S4096, .f32⟩
  | 63 => ⟨S4096x1, .f32⟩
  | 64 => ⟨S256x1024, .f32⟩
  | 65 => ⟨S4096x1024, .f32⟩
  | 66 => ⟨S_, .f32⟩
  | 67 => ⟨S4096x1024, .f32⟩
  | 68 => ⟨S4096x1024, .f32⟩
  | 69 => ⟨S4096x1024, .f32⟩
  | 70 => ⟨S4096x1024, .f32⟩
  | 71 => ⟨S1024x256, .f32⟩
  | 72 => ⟨S_, .f32⟩
  | 73 => ⟨S1024, .f32⟩
  | 74 => ⟨S1x1024, .f32⟩
  | 75 => ⟨S4096x1024, .f32⟩
  | 76 => ⟨S4096x1024, .f32⟩
  | 77 => ⟨S4096x1024, .i32⟩
  | 78 => ⟨S_, .f32⟩
  | 79 => ⟨S_, .i32⟩
  | 80 => ⟨S4096, .f32⟩
  | 81 => ⟨S4096, .i32⟩
  | 82 => ⟨S_, .i32⟩
  | 83 => ⟨S4096, .i32⟩
  | 84 => ⟨S4096, .i1⟩
  | 85 => ⟨S_, .i32⟩
  | 86 => ⟨S4096, .i32⟩
  | 87 => ⟨S4096, .i32⟩
  | 88 => ⟨S4096, .i32⟩
  | 89 => ⟨S4096x1, .i32⟩
  | 90 => ⟨S1, .i32⟩
  | 91 => ⟨S_, .i32⟩
  | 92 => ⟨S4096x1, .i32⟩
  | 93 => ⟨S4096x1, .i1⟩
  | 94 => ⟨S1x1, .i32⟩
  | 95 => ⟨S4096x1, .i32⟩
  | 96 => ⟨S4096x1, .i1⟩
  | 97 => ⟨S4096x1, .i1⟩
  | 98 => ⟨S_, .i1⟩
  | 99 => ⟨S4096, .i1⟩
  | 100 => ⟨S4096x256, .f32⟩
  | 101 => ⟨S4096x256, .i1⟩
  | 102 => ⟨S_, .f32⟩
  | 103 => ⟨S4096x256, .f32⟩
  | 104 => ⟨S4096x256, .f32⟩
  | 105 => ⟨S4096x256, .f32⟩
  | 106 => ⟨S1x1024x256, .f32⟩
  | 107 => ⟨S1024x256, .f32⟩
  | 108 => ⟨S4096x256, .f32⟩
  | 109 => ⟨S_, .f32⟩
  | 110 => ⟨S4096, .f32⟩
  | 111 => ⟨S4096x1, .f32⟩
  | 112 => ⟨S256x1024, .f32⟩
  | 113 => ⟨S4096x1024, .f32⟩
  | 114 => ⟨S_, .f32⟩
  | 115 => ⟨S4096x1024, .f32⟩
  | 116 => ⟨S4096x1024, .f32⟩
  | 117 => ⟨S4096x1024, .f32⟩
  | 118 => ⟨S4096x1024, .f32⟩
  | 119 => ⟨S1024x256, .f32⟩
  | 120 => ⟨S_, .f32⟩
  | 121 => ⟨S1024, .f32⟩
  | 122 => ⟨S1x1024, .f32⟩
  | 123 => ⟨S4096x1024, .f32⟩
  | 124 => ⟨S4096x1024, .f32⟩
  | 125 => ⟨S4096x1024, .i32⟩
  | 126 => ⟨S_, .f32⟩
  | 127 => ⟨S_, .i32⟩
  | _ => ⟨S4096x768, .f32⟩

abbrev hbmTy0_1 (i : Nat) : BufTy := match i % 128 with
  | 0 => ⟨S4096, .f32⟩
  | 1 => ⟨S4096, .i32⟩
  | 2 => ⟨S_, .i32⟩
  | 3 => ⟨S4096, .i32⟩
  | 4 => ⟨S4096, .i1⟩
  | 5 => ⟨S_, .i32⟩
  | 6 => ⟨S4096, .i32⟩
  | 7 => ⟨S4096, .i32⟩
  | 8 => ⟨S4096, .i32⟩
  | 9 => ⟨S4096x1, .i32⟩
  | 10 => ⟨S1, .i32⟩
  | 11 => ⟨S_, .i32⟩
  | 12 => ⟨S4096x1, .i32⟩
  | 13 => ⟨S4096x1, .i1⟩
  | 14 => ⟨S1x1, .i32⟩
  | 15 => ⟨S4096x1, .i32⟩
  | 16 => ⟨S4096x1, .i1⟩
  | 17 => ⟨S4096x1, .i1⟩
  | 18 => ⟨S_, .i1⟩
  | 19 => ⟨S4096, .i1⟩
  | 20 => ⟨S4096x256, .f32⟩
  | 21 => ⟨S4096x256, .i1⟩
  | 22 => ⟨S_, .f32⟩
  | 23 => ⟨S4096x256, .f32⟩
  | 24 => ⟨S4096x256, .f32⟩
  | 25 => ⟨S4096x256, .f32⟩
  | 26 => ⟨S1x1024x256, .f32⟩
  | 27 => ⟨S1024x256, .f32⟩
  | 28 => ⟨S4096x256, .f32⟩
  | 29 => ⟨S_, .f32⟩
  | 30 => ⟨S4096, .f32⟩
  | 31 => ⟨S4096x1, .f32⟩
  | 32 => ⟨S256x1024, .f32⟩
  | 33 => ⟨S4096x1024, .f32⟩
  | 34 => ⟨S_, .f32⟩
  | 35 => ⟨S4096x1024, .f32⟩
  | 36 => ⟨S4096x1024, .f32⟩
  | 37 => ⟨S4096x1024, .f32⟩
  | 38 => ⟨S4096x1024, .f32⟩
  | 39 => ⟨S1024x256, .f32⟩
  | 40 => ⟨S_, .f32⟩
  | 41 => ⟨S1024, .f32⟩
  | 42 => ⟨S1x1024, .f32⟩
  | 43 => ⟨S4096x1024, .f32⟩
  | 44 => ⟨S4096x1024, .f32⟩
  | 45 => ⟨S4096x1024, .i32⟩
  | 46 => ⟨S_, .f32⟩
  | 47 => ⟨S_, .i32⟩
  | 48 => ⟨S4096, .f32⟩
  | 49 => ⟨S4096, .i32⟩
  | 50 => ⟨S_, .i32⟩
  | 51 => ⟨S4096, .i32⟩
  | 52 => ⟨S4096, .i1⟩
  | 53 => ⟨S_, .i32⟩
  | 54 => ⟨S4096, .i32⟩
  | 55 => ⟨S4096, .i32⟩
  | 56 => ⟨S4096, .i32⟩
  | 57 => ⟨S4096x1, .i32⟩
  | 58 => ⟨S1, .i32⟩
  | 59 => ⟨S_, .i32⟩
  | 60 => ⟨S4096x1, .i32⟩
  | 61 => ⟨S4096x1, .i1⟩
  | 62 => ⟨S1x1, .i32⟩
  | 63 => ⟨S4096x1, .i32⟩
  | 64 => ⟨S4096x1, .i1⟩
  | 65 => ⟨S4096x1, .i1⟩
  | 66 => ⟨S_, .i1⟩
  | 67 => ⟨S4096, .i1⟩
  | 68 => ⟨S4096x256, .f32⟩
  | 69 => ⟨S4096x256, .i1⟩
  | 70 => ⟨S_, .f32⟩
  | 71 => ⟨S4096x256, .f32⟩
  | 72 => ⟨S4096x256, .f32⟩
  | 73 => ⟨S4096x256, .f32⟩
  | 74 => ⟨S4096x1, .i32⟩
  | 75 => ⟨S4096x1, .i32⟩
  | 76 => ⟨S4096x1, .i32⟩
  | 77 => ⟨S4096x1, .i32⟩
  | 78 => ⟨S4096x4, .i32⟩
  | 79 => ⟨S4096x4, .f32⟩
  | 80 => ⟨S4096x256, .f32⟩
  | 81 => ⟨S1x256, .f32⟩
  | 82 => ⟨S4096x256, .f32⟩
  | 83 => ⟨S4096x256, .f32⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_cst : Ref sig .tc := ⟨.hbm, 30, rfl⟩
abbrev main_call0_c : Ref sig .tc := ⟨.hbm, 31, rfl⟩
abbrev main_call0_v1_0 : Ref sig .tc := ⟨.hbm, 32, rfl⟩
abbrev main_v20 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst_2 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_3 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_4 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_call2_v0 : Ref sig .tc := ⟨.hbm, 77, rfl⟩
abbrev main_call2_cst : Ref sig .tc := ⟨.hbm, 78, rfl⟩
abbrev main_call2_c : Ref sig .tc := ⟨.hbm, 79, rfl⟩
abbrev main_call2_v1_0 : Ref sig .tc := ⟨.hbm, 80, rfl⟩
abbrev main_v39 : Ref sig .tc := ⟨.hbm, 81, rfl⟩
abbrev main_call3_c : Ref sig .tc := ⟨.hbm, 82, rfl⟩
abbrev main_call3_v0 : Ref sig .tc := ⟨.hbm, 83, rfl⟩
abbrev main_call3_v1 : Ref sig .tc := ⟨.hbm, 84, rfl⟩
abbrev main_call3_c_0 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_c_1 : Ref sig .tc := ⟨.hbm, 90, rfl⟩
abbrev main_call3_c_2 : Ref sig .tc := ⟨.hbm, 91, rfl⟩
abbrev main_call3_v6 : Ref sig .tc := ⟨.hbm, 92, rfl⟩
abbrev main_call3_v7 : Ref sig .tc := ⟨.hbm, 93, rfl⟩
abbrev main_call3_v8 : Ref sig .tc := ⟨.hbm, 94, rfl⟩
abbrev main_call3_v9 : Ref sig .tc := ⟨.hbm, 95, rfl⟩
abbrev main_call3_v10 : Ref sig .tc := ⟨.hbm, 96, rfl⟩
abbrev main_call3_v11 : Ref sig .tc := ⟨.hbm, 97, rfl⟩
abbrev main_call3_c_3 : Ref sig .tc := ⟨.hbm, 98, rfl⟩
abbrev main_call3_v12 : Ref sig .tc := ⟨.hbm, 99, rfl⟩
abbrev main_call3_v13 : Ref sig .tc := ⟨.hbm, 100, rfl⟩
abbrev main_call3_v14 : Ref sig .tc := ⟨.hbm, 101, rfl⟩
abbrev main_call3_cst : Ref sig .tc := ⟨.hbm, 102, rfl⟩
abbrev main_call3_v15 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_cst_5 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_cst_6 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_cst_7 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_call4_v0 : Ref sig .tc := ⟨.hbm, 125, rfl⟩
abbrev main_call4_cst : Ref sig .tc := ⟨.hbm, 126, rfl⟩
abbrev main_call4_c : Ref sig .tc := ⟨.hbm, 127, rfl⟩
abbrev main_call4_v1_0 : Ref sig .tc := ⟨.hbm, 128, rfl⟩
abbrev main_v58 : Ref sig .tc := ⟨.hbm, 129, rfl⟩
abbrev main_call5_c : Ref sig .tc := ⟨.hbm, 130, rfl⟩
abbrev main_call5_v0 : Ref sig .tc := ⟨.hbm, 131, rfl⟩
abbrev main_call5_v1 : Ref sig .tc := ⟨.hbm, 132, rfl⟩
abbrev main_call5_c_0 : Ref sig .tc := ⟨.hbm, 133, rfl⟩
abbrev main_call5_v2 : Ref sig .tc := ⟨.hbm, 134, rfl⟩
abbrev main_call5_v3 : Ref sig .tc := ⟨.hbm, 135, rfl⟩
abbrev main_call5_v4 : Ref sig .tc := ⟨.hbm, 136, rfl⟩
abbrev main_call5_v5 : Ref sig .tc := ⟨.hbm, 137, rfl⟩
abbrev main_call5_c_1 : Ref sig .tc := ⟨.hbm, 138, rfl⟩
abbrev main_call5_c_2 : Ref sig .tc := ⟨.hbm, 139, rfl⟩
abbrev main_call5_v6 : Ref sig .tc := ⟨.hbm, 140, rfl⟩
abbrev main_call5_v7 : Ref sig .tc := ⟨.hbm, 141, rfl⟩
abbrev main_call5_v8 : Ref sig .tc := ⟨.hbm, 142, rfl⟩
abbrev main_call5_v9 : Ref sig .tc := ⟨.hbm, 143, rfl⟩
abbrev main_call5_v10 : Ref sig .tc := ⟨.hbm, 144, rfl⟩
abbrev main_call5_v11 : Ref sig .tc := ⟨.hbm, 145, rfl⟩
abbrev main_call5_c_3 : Ref sig .tc := ⟨.hbm, 146, rfl⟩
abbrev main_call5_v12 : Ref sig .tc := ⟨.hbm, 147, rfl⟩
abbrev main_call5_v13 : Ref sig .tc := ⟨.hbm, 148, rfl⟩
abbrev main_call5_v14 : Ref sig .tc := ⟨.hbm, 149, rfl⟩
abbrev main_call5_cst : Ref sig .tc := ⟨.hbm, 150, rfl⟩
abbrev main_call5_v15 : Ref sig .tc := ⟨.hbm, 151, rfl⟩
abbrev main_v59 : Ref sig .tc := ⟨.hbm, 152, rfl⟩
abbrev main_v60 : Ref sig .tc := ⟨.hbm, 153, rfl⟩
abbrev main_v61 : Ref sig .tc := ⟨.hbm, 154, rfl⟩
abbrev main_v62 : Ref sig .tc := ⟨.hbm, 155, rfl⟩
abbrev main_v63 : Ref sig .tc := ⟨.hbm, 156, rfl⟩
abbrev main_cst_8 : Ref sig .tc := ⟨.hbm, 157, rfl⟩
abbrev main_v64 : Ref sig .tc := ⟨.hbm, 158, rfl⟩
abbrev main_v65 : Ref sig .tc := ⟨.hbm, 159, rfl⟩
abbrev main_v66 : Ref sig .tc := ⟨.hbm, 160, rfl⟩
abbrev main_v67 : Ref sig .tc := ⟨.hbm, 161, rfl⟩
abbrev main_cst_9 : Ref sig .tc := ⟨.hbm, 162, rfl⟩
abbrev main_v68 : Ref sig .tc := ⟨.hbm, 163, rfl⟩
abbrev main_v69 : Ref sig .tc := ⟨.hbm, 164, rfl⟩
abbrev main_v70 : Ref sig .tc := ⟨.hbm, 165, rfl⟩
abbrev main_v71 : Ref sig .tc := ⟨.hbm, 166, rfl⟩
abbrev main_v72 : Ref sig .tc := ⟨.hbm, 167, rfl⟩
abbrev main_cst_10 : Ref sig .tc := ⟨.hbm, 168, rfl⟩
abbrev main_v73 : Ref sig .tc := ⟨.hbm, 169, rfl⟩
abbrev main_v74 : Ref sig .tc := ⟨.hbm, 170, rfl⟩
abbrev main_v75 : Ref sig .tc := ⟨.hbm, 171, rfl⟩
abbrev main_v76 : Ref sig .tc := ⟨.hbm, 172, rfl⟩
abbrev main_call6_v0 : Ref sig .tc := ⟨.hbm, 173, rfl⟩
abbrev main_call6_cst : Ref sig .tc := ⟨.hbm, 174, rfl⟩
abbrev main_call6_c : Ref sig .tc := ⟨.hbm, 175, rfl⟩
abbrev main_call6_v1_0 : Ref sig .tc := ⟨.hbm, 176, rfl⟩
abbrev main_v77 : Ref sig .tc := ⟨.hbm, 177, rfl⟩
abbrev main_call7_c : Ref sig .tc := ⟨.hbm, 178, rfl⟩
abbrev main_call7_v0 : Ref sig .tc := ⟨.hbm, 179, rfl⟩
abbrev main_call7_v1 : Ref sig .tc := ⟨.hbm, 180, rfl⟩
abbrev main_call7_c_0 : Ref sig .tc := ⟨.hbm, 181, rfl⟩
abbrev main_call7_v2 : Ref sig .tc := ⟨.hbm, 182, rfl⟩
abbrev main_call7_v3 : Ref sig .tc := ⟨.hbm, 183, rfl⟩
abbrev main_call7_v4 : Ref sig .tc := ⟨.hbm, 184, rfl⟩
abbrev main_call7_v5 : Ref sig .tc := ⟨.hbm, 185, rfl⟩
abbrev main_call7_c_1 : Ref sig .tc := ⟨.hbm, 186, rfl⟩
abbrev main_call7_c_2 : Ref sig .tc := ⟨.hbm, 187, rfl⟩
abbrev main_call7_v6 : Ref sig .tc := ⟨.hbm, 188, rfl⟩
abbrev main_call7_v7 : Ref sig .tc := ⟨.hbm, 189, rfl⟩
abbrev main_call7_v8 : Ref sig .tc := ⟨.hbm, 190, rfl⟩
abbrev main_call7_v9 : Ref sig .tc := ⟨.hbm, 191, rfl⟩
abbrev main_call7_v10 : Ref sig .tc := ⟨.hbm, 192, rfl⟩
abbrev main_call7_v11 : Ref sig .tc := ⟨.hbm, 193, rfl⟩
abbrev main_call7_c_3 : Ref sig .tc := ⟨.hbm, 194, rfl⟩
abbrev main_call7_v12 : Ref sig .tc := ⟨.hbm, 195, rfl⟩
abbrev main_call7_v13 : Ref sig .tc := ⟨.hbm, 196, rfl⟩
abbrev main_call7_v14 : Ref sig .tc := ⟨.hbm, 197, rfl⟩
abbrev main_call7_cst : Ref sig .tc := ⟨.hbm, 198, rfl⟩
abbrev main_call7_v15 : Ref sig .tc := ⟨.hbm, 199, rfl⟩
abbrev main_v78 : Ref sig .tc := ⟨.hbm, 200, rfl⟩
abbrev main_v79 : Ref sig .tc := ⟨.hbm, 201, rfl⟩
abbrev main_v80 : Ref sig .tc := ⟨.hbm, 202, rfl⟩
abbrev main_v81 : Ref sig .tc := ⟨.hbm, 203, rfl⟩
abbrev main_v82 : Ref sig .tc := ⟨.hbm, 204, rfl⟩
abbrev main_v83 : Ref sig .tc := ⟨.hbm, 205, rfl⟩
abbrev main_v84 : Ref sig .tc := ⟨.hbm, 206, rfl⟩
abbrev main_v85 : Ref sig .tc := ⟨.hbm, 207, rfl⟩
abbrev main_v86 : Ref sig .tc := ⟨.hbm, 208, rfl⟩
abbrev main_v87 : Ref sig .tc := ⟨.hbm, 209, rfl⟩
abbrev main_v88 : Ref sig .tc := ⟨.hbm, 210, rfl⟩
abbrev main_v89 : Ref sig .tc := ⟨.hbm, 211, rfl⟩

abbrev nD : Nat := 1
abbrev τ : Topo := Topo.v7x

variable {F : FTy → Type} [FloatOps F]
-- ==== Proof.KerFn.lean ====
/-
  What the kernel computes on one block of rows, as functions of the arrays it reads. One layer of the quantizer is
  written once (`dist`, `nearest`, `next`) and used at the four codebooks; `blockIds` is the whole block.
-/
module

public import proofs.«01_k».proof.Proof.Gen.KernelIdeal.Skeleton
public import Idealize.ShloMosaic.Lib.Pipeline.FrameBody

@[expose] public section

noncomputable section

namespace Cert.Proof.Ker

open Cert.KernelIdeal Cert.KernelIdeal.Gen
open Idealize.ShloMosaic Idealize.SL.Sem

variable {F : FTy → Type} [FloatOps F]

/-- The 256 rows of `q` added in slabs of 8. -/
def slabSum (q : FVec F S256x1024 .f32) : FVec F S8x1024 .f32 :=
  have a0 : FVec F S8x1024 .f32 := extractStridedSlice S8x1024 ![0, 0] q slices_S256x1024_o0_0_S8x1024
  have s1 : FVec F S8x1024 .f32 := extractStridedSlice S8x1024 ![8, 0] q slices_S256x1024_o8_0_S8x1024
  have a1 : FVec F S8x1024 .f32 := addf a0 s1
  have s2 : FVec F S8x1024 .f32 := extractStridedSlice S8x1024 ![16, 0] q slices_S256x1024_o16_0_S8x1024
  have a2 : FVec F S8x1024 .f32 := addf a1 s2
  have s3 : FVec F S8x1024 .f32 := extractStridedSlice S8x1024 ![24, 0] q slices_S256x1024_o24_0_S8x1024
  have a3 : FVec F S8x1024 .f32 := addf a2 s3
  have s4 : FVec F S8x1024 .f32 := extractStridedSlice S8x1024 ![32, 0] q slices_S256x1024_o32_0_S8x1024
  have a4 : FVec F S8x1024 .f32 := addf a3 s4
  have s5 : FVec F S8x1024 .f32 := extractStridedSlice S8x1024 ![40, 0] q slices_S256x1024_o40_0_S8x1024
  have a5 : FVec F S8x1024 .f32 := addf a4 s5
  have s6 : FVec F S8x1024 .f32 := extractStridedSlice S8x1024 ![48, 0] q slices_S256x1024_o48_0_S8x1024
  have a6 : FVec F S8x1024 .f32 := addf a5 s6
  have s7 : FVec F S8x1024 .f32 := extractStridedSlice S8x1024 ![56, 0] q slices_S256x1024_o56_0_S8x1024
  have a7 : FVec F S8x1024 .f32 := addf a6 s7
  have s8 : FVec F S8x1024 .f32 := extractStridedSlice S8x1024 ![64, 0] q slices_S256x1024_o64_0_S8x1024
  have a8 : FVec F S8x1024 .f32 := addf a7 s8
  have s9 : FVec F S8x1024 .f32 := extractStridedSlice S8x1024 ![72, 0] q slices_S256x1024_o72_0_S8x1024
  have a9 : FVec F S8x1024 .f32 := addf a8 s9
  have s10 : FVec F S8x1024 .f32 := extractStridedSlice S8x1024 ![80, 0] q slices_S256x1024_o80_0_S8x1024
  have a10 : FVec F S8x1024 .f32 := addf a9 s10
  have s11 : FVec F S8x1024 .f32 := extractStridedSlice S8x1024 ![88, 0] q slices_S256x1024_o88_0_S8x1024
  have a11 : FVec F S8x1024 .f32 := addf a10 s11
  have s12 : FVec F S8x1024 .f32 := extractStridedSlice S8x1024 ![96, 0] q slices_S256x1024_o96_0_S8x1024
  have a12 : FVec F S8x1024 .f32 := addf a11 s12
  have s13 : FVec F S8x1024 .f32 := extractStridedSlice S8x1024 ![104, 0] q slices_S256x1024_o104_0_S8x1024
  have a13 : FVec F S8x1024 .f32 := addf a12 s13
  have s14 : FVec F S8x1024 .f32 := extractStridedSlice S8x1024 ![112, 0] q slices_S256x1024_o112_0_S8x1024
  have a14 : FVec F S8x1024 .f32 := addf a13 s14
  have s15 : FVec F S8x1024 .f32 := extractStridedSlice S8x1024 ![120, 0] q slices_S256x1024_o120_0_S8x1024
  have a15 : FVec F S8x1024 .f32 := addf a14 s15
  have s16 : FVec F S8x1024 .f32 := extractStridedSlice S8x1024 ![128, 0] q slices_S256x1024_o128_0_S8x1024
  have a16 : FVec F S8x1024 .f32 := addf a15 s16
  have s17 : FVec F S8x1024 .f32 := extractStridedSlice S8x1024 ![136, 0] q slices_S256x1024_o136_0_S8x1024
  have a17 : FVec F S8x1024 .f32 := addf a16 s17
  have s18 : FVec F S8x1024 .f32 := extractStridedSlice S8x1024 ![144, 0] q slices_S256x1024_o144_0_S8x1024
  have a18 : FVec F S8x1024 .f32 := addf a17 s18
  have s19 : FVec F S8x1024 .f32 := extractStridedSlice S8x1024 ![152, 0] q slices_S256x1024_o152_0_S8x1024
  have a19 : FVec F S8x1024 .f32 := addf a18 s19
  have s20 : FVec F S8x1024 .f32 := extractStridedSlice S8x1024 ![160, 0] q slices_S256x1024_o160_0_S8x1024
  have a20 : FVec F S8x1024 .f32 := addf a19 s20
  have s21 : FVec F S8x1024 .f32 := extractStridedSlice S8x1024 ![168, 0] q slices_S256x1024_o168_0_S8x1024
  have a21 : FVec F S8x1024 .f32 := addf a20 s21
  have s22 : FVec F S8x1024 .f32 := extractStridedSlice S8x1024 ![176, 0] q slices_S256x1024_o176_0_S8x1024
  have a22 : FVec F S8x1024 .f32 := addf a21 s22
  have s23 : FVec F S8x1024 .f32 := extractStridedSlice S8x1024 ![184, 0] q slices_S256x1024_o184_0_S8x1024
  have a23 : FVec F S8x1024 .f32 := addf a22 s23
  have s24 : FVec F S8x1024 .f32 := extractStridedSlice S8x1024 ![192, 0] q slices_S256x1024_o192_0_S8x1024
  have a24 : FVec F S8x1024 .f32 := addf a23 s24
  have s25 : FVec F S8x1024 .f32 := extractStridedSlice S8x1024 ![200, 0] q slices_S256x1024_o200_0_S8x1024
  have a25 : FVec F S8x1024 .f32 := addf a24 s25
  have s26 : FVec F S8x1024 .f32 := extractStridedSlice S8x1024 ![208, 0] q slices_S256x1024_o208_0_S8x1024
  have a26 : FVec F S8x1024 .f32 := addf a25 s26
  have s27 : FVec F S8x1024 .f32 := extractStridedSlice S8x1024 ![216, 0] q slices_S256x1024_o216_0_S8x1024
  have a27 : FVec F S8x1024 .f32 := addf a26 s27
  have s28 : FVec F S8x1024 .f32 := extractStridedSlice S8x1024 ![224, 0] q slices_S256x1024_o224_0_S8x1024
  have a28 : FVec F S8x1024 .f32 := addf a27 s28
  have s29 : FVec F S8x1024 .f32 := extractStridedSlice S8x1024 ![232, 0] q slices_S256x1024_o232_0_S8x1024
  have a29 : FVec F S8x1024 .f32 := addf a28 s29
  have s30 : FVec F S8x1024 .f32 := extractStridedSlice S8x1024 ![240, 0] q slices_S256x1024_o240_0_S8x1024
  have a30 : FVec F S8x1024 .f32 := addf a29 s30
  have s31 : FVec F S8x1024 .f32 := extractStridedSlice S8x1024 ![248, 0] q slices_S256x1024_o248_0_S8x1024
  have a31 : FVec F S8x1024 .f32 := addf a30 s31
  a31

/-- The 8 rows of a slab folded to one: 8 → 4 → 2 → 1. -/
def fold8 (s : FVec F S8x1024 .f32) : FVec F S1x1024 .f32 :=
  have a : FVec F S4x1024 .f32 := addf (extractStridedSlice S4x1024 ![0, 0] s slices_S8x1024_o0_0_S4x1024) (extractStridedSlice S4x1024 ![4, 0] s slices_S8x1024_o4_0_S4x1024)
  have b : FVec F S2x1024 .f32 := addf (extractStridedSlice S2x1024 ![0, 0] a slices_S4x1024_o0_0_S2x1024) (extractStridedSlice S2x1024 ![2, 0] a slices_S4x1024_o2_0_S2x1024)
  addf (extractStridedSlice S1x1024 ![0, 0] b slices_S2x1024_o0_0_S1x1024) (extractStridedSlice S1x1024 ![1, 0] b slices_S2x1024_o1_0_S1x1024)

/-- The squares of the residuals, a row per column. -/
def squares (r : FVec F S1024x256 .f32) : FVec F S256x1024 .f32 :=
  mulf (transpose S256x1024 [1, 0] r transposes_S1024x256_p1_0_S256x1024) (transpose S256x1024 [1, 0] r transposes_S1024x256_p1_0_S256x1024)

/-- The squared length of every residual row. -/
def rowNorms (r : FVec F S1024x256 .f32) : FVec F S1024x1 .f32 :=
  transpose S1024x1 [1, 0] (fold8 (slabSum (squares r))) transposes_S1x1024_p1_0_S1024x1

/-- The squared distances of every residual row to every entry: `c2` is twice the codebook, `cn` its entries' squared lengths. -/
def dist (r : FVec F S1024x256 .f32) (c2 : FVec F S1x1024x256 .bf16) (cn : FVec F S1x1024 .f32) : FVec F S1024x1024 .f32 :=
  addf
    (subf (broadcastTo S1024x1024 (rowNorms r) broadcasts_S1024x1_S1024x1024)
      (matmul dot_S1024x256_S1024x256_S1024x1024_1_1_0_0_n_n none r (shapeCast S1024x256 c2 shapeCasts_S1x1024x256_S1024x256) (constant S1024x1024 .f32 0x00000000#32)))
    (broadcastTo S1024x1024 (shapeCast S1x1024 cn shapeCasts_S1x1024_S1x1024) broadcasts_S1x1024_S1024x1024)

/-- The entries' numbers, along every row. -/
def numbers : FVec F S1024x1024 .f32 := sitofp .f32 (iota .tc S1024x1024 32 [1] iota_S1024x1024_d1_w32)

/-- The number of the nearest entry of every row, as a float: the least number among those at which the distance is the least. -/
def nearest (d : FVec F S1024x1024 .f32) : FVec F S1024x1 .f32 :=
  shapeCast S1024x1
    (multiReduction .minimumf [1] S1024
      (select
        (cmpf .oeq d (broadcastTo S1024x1024 (shapeCast S1024x1 (multiReduction .minimumf [1] S1024 d 0x7F800000#32 reduces_S1024x1024_S1024 (.inl rfl) rfl) shapeCasts_S1024_S1024x1) broadcasts_S1024x1_S1024x1024))
        numbers (broadcast S1024x1024 (Scalar.ofBits (F := F) .f32 0x44800000#32)))
      0x7F800000#32 reduces_S1024x1024_S1024 (.inl rfl) rfl)
    shapeCasts_S1024_S1024x1

/-- The table with a one where the number is the row's. -/
def oneHot (n : FVec F S1024x1 .f32) : FVec F S1024x1024 .bf16 :=
  truncf .bf16 (sitofp .f32 (extui 32 (cmpf .oeq (broadcastTo S1024x1024 n broadcasts_S1024x1_S1024x1024) numbers) natLt_1_32)) bitsLt_bf16_f32

/-- The table times one cell of a codebook buffer. -/
def pick (o : FVec F S1024x1024 .bf16) (h : FVec F S1x1024x256 .bf16) : FVec F S1024x256 .f32 :=
  matmul dot_S1024x1024_S1024x256_S1024x256_1_0_0_1_n_n none o (shapeCast S1024x256 h shapeCasts_S1x1024x256_S1024x256) (constant S1024x256 .f32 0x00000000#32)

/-- The residual the next layer starts from. -/
def next (r : FVec F S1024x256 .f32) (n : FVec F S1024x1 .f32) (hi mid lo : FVec F S1x1024x256 .bf16) : FVec F S1024x256 .f32 :=
  subf r (addf (addf (pick (oneHot n) hi) (pick (oneHot n) mid)) (pick (oneHot n) lo))

/-- The first residual. -/
def enc (x : FVec F S1024x768 .f32) (W : FVec F S768x256 .f32) (b : FVec F S1x256 .f32) : FVec F S1024x256 .f32 :=
  addf (matmul dot_S1024x768_S768x256_S1024x256_1_0_0_1_n_n none x W (constant S1024x256 .f32 0x00000000#32))
    (broadcastTo S1024x256 (shapeCast S1x256 b shapeCasts_S1x256_S1x256) broadcasts_S1x256_S1024x256)

/-- The four layers' numbers side by side. -/
def stack (n0 n1 n2 n3 : FVec F S1024x1 .f32) : IVec S1024x4 32 :=
  concatenate S1024x4 1 [⟨S1024x1, fptosi 32 n0⟩, ⟨S1024x1, fptosi 32 n1⟩, ⟨S1024x1, fptosi 32 n2⟩, ⟨S1024x1, fptosi 32 n3⟩] concatenates_S1024x1_S1024x1_S1024x1_S1024x1_S1024x4_d1

/-- Cell `l` of a codebook buffer. -/
abbrev cell0 (z : FVec F S4x1024x256 .bf16) : FVec F S1x1024x256 .bf16 := View.ld (Val := Elt F) (e' := .bf16) z (Rect.unit (s := S4x1024x256) ![0, 0, 0] S1x1024x256.size inb_S4x1024x256_S1x1024x256_0_0_0)
@[inherit_doc cell0] abbrev cell1 (z : FVec F S4x1024x256 .bf16) : FVec F S1x1024x256 .bf16 := View.ld (Val := Elt F) (e' := .bf16) z (Rect.unit (s := S4x1024x256) ![1, 0, 0] S1x1024x256.size inb_S4x1024x256_S1x1024x256_1_0_0)
@[inherit_doc cell0] abbrev cell2 (z : FVec F S4x1024x256 .bf16) : FVec F S1x1024x256 .bf16 := View.ld (Val := Elt F) (e' := .bf16) z (Rect.unit (s := S4x1024x256) ![2, 0, 0] S1x1024x256.size inb_S4x1024x256_S1x1024x256_2_0_0)
@[inherit_doc cell0] abbrev cell3 (z : FVec F S4x1024x256 .bf16) : FVec F S1x1024x256 .bf16 := View.ld (Val := Elt F) (e' := .bf16) z (Rect.unit (s := S4x1024x256) ![3, 0, 0] S1x1024x256.size inb_S4x1024x256_S1x1024x256_3_0_0)

/-- Row `l` of the entries' squared lengths. -/
abbrev row0 (z : FVec F S4x1024 .f32) : FVec F S1x1024 .f32 := View.ld (Val := Elt F) (e' := .f32) z (Rect.unit (s := S4x1024) ![0, 0] S1x1024.size inb_S4x1024_S1x1024_0_0)
@[inherit_doc row0] abbrev row1 (z : FVec F S4x1024 .f32) : FVec F S1x1024 .f32 := View.ld (Val := Elt F) (e' := .f32) z (Rect.unit (s := S4x1024) ![1, 0] S1x1024.size inb_S4x1024_S1x1024_1_0)
@[inherit_doc row0] abbrev row2 (z : FVec F S4x1024 .f32) : FVec F S1x1024 .f32 := View.ld (Val := Elt F) (e' := .f32) z (Rect.unit (s := S4x1024) ![2, 0] S1x1024.size inb_S4x1024_S1x1024_2_0)
@[inherit_doc row0] abbrev row3 (z : FVec F S4x1024 .f32) : FVec F S1x1024 .f32 := View.ld (Val := Elt F) (e' := .f32) z (Rect.unit (s := S4x1024) ![3, 0] S1x1024.size inb_S4x1024_S1x1024_3_0)

/-- One layer: the number of the nearest entry. -/
def num (r : FVec F S1024x256 .f32) (c2 : FVec F S1x1024x256 .bf16) (cn : FVec F S1x1024 .f32) : FVec F S1024x1 .f32 := nearest (dist r c2 cn)

/-- One layer: the residual handed on. -/
def step (r : FVec F S1024x256 .f32) (c2 : FVec F S1x1024x256 .bf16) (cn : FVec F S1x1024 .f32) (hi mid lo : FVec F S1x1024x256 .bf16) : FVec F S1024x256 .f32 :=
  next r (num r c2 cn) hi mid lo

/-- The ids of one block of rows. -/
def blockIds (r0 : FVec F S1024x256 .f32) (c2 hi mid lo : FVec F S4x1024x256 .bf16) (cn : FVec F S4x1024 .f32) : IVec S1024x4 32 :=
  have r1 : FVec F S1024x256 .f32 := step r0 (cell0 c2) (row0 cn) (cell0 hi) (cell0 mid) (cell0 lo)
  have r2 : FVec F S1024x256 .f32 := step r1 (cell1 c2) (row1 cn) (cell1 hi) (cell1 mid) (cell1 lo)
  have r3 : FVec F S1024x256 .f32 := step r2 (cell2 c2) (row2 cn) (cell2 hi) (cell2 mid) (cell2 lo)
  stack (num r0 (cell0 c2) (row0 cn)) (num r1 (cell1 c2) (row1 cn)) (num r2 (cell2 c2) (row2 cn)) (num r3 (cell3 c2) (row3 cn))

end Cert.Proof.Ker

end
-- ==== Proof.KerBlock.lean ====
/-
  What a point's body leaves, from the generated run of the body: the ids of its block (`out_A` at the first point, which
  fills the four codebook buffers first, `out_B` at the others) and the four buffers.
-/
module

public import proofs.«01_k».proof.Proof.KerFn
public import proofs.«01_k».proof.Proof.Gen.KernelIdeal.Frame
public import Idealize.ShloMosaic.Lib.Pipeline.Value

@[expose] public section

set_option maxRecDepth 65536

noncomputable section

namespace Cert.Proof.Ker

open Cert.KernelIdeal Cert.KernelIdeal.Gen
open Idealize.ShloMosaic Idealize.ShloMosaic.TcCoe Idealize.ShloMosaic.Tactic Idealize.SL.Sem

variable {F : FTy → Type} [FloatOps F]

variable (x : FVec F S1024x768 .f32) (W : FVec F S768x256 .f32) (b : FVec F S1x256 .f32)
variable (r : FVec F S1024x256 .f32) (d : FVec F S1024x1024 .f32) (h m l c : FVec F S1x1024x256 .bf16) (n : FVec F S1x1024 .f32)

/-! ## The generated payloads are these functions -/

/-- The least distance of every row. -/
def least (d : FVec F S1024x1024 .f32) : FVec F S1024 .f32 := multiReduction .minimumf [1] S1024 d 0x7F800000#32 reduces_S1024x1024_S1024 (.inl rfl) rfl

/-- The first residual. -/
theorem pay_enc : k0_pay9 x W b = enc x W b := rfl
/-- The entries' numbers. -/
theorem pay_numbers : k0_pay10 (F := F) = numbers := rfl
/-- Layer 0's distances. -/
theorem pay_dist0 : k0_pay15 (enc x W b) (k0_pay12 x W b) (k0_pay13 x W b) (k0_pay14 x W b) c n = dist (enc x W b) c n := rfl
/-- Layer 0's least distances. -/
theorem pay_least0 : k0_pay16 (enc x W b) (k0_pay12 x W b) (k0_pay13 x W b) (k0_pay14 x W b) c n = least (dist (enc x W b) c n) := rfl
/-- Layer 0's numbers. -/
theorem pay_ids0 : k0_pay18 numbers d (least d) = fptosi 32 (nearest d) := rfl
/-- Layer 0's residual. -/
theorem pay_next0 : k0_pay19 r numbers (k0_pay11 h) d (least d) m l = next r (nearest d) h m l := rfl
/-- Layer 1's squared lengths. -/
theorem pay_norms1 : k0_pay23 (k0_pay21 r numbers (k0_pay11 h) d (least d) m l) (k0_pay22 r numbers (k0_pay11 h) d (least d) m l) = rowNorms (next r (nearest d) h m l) := rfl
/-- Layer 1's numbers. -/
theorem pay_ids1 : k0_pay26 numbers r (rowNorms r) (k0_pay24 c) (constant S1024x1024 .f32 0x00000000#32) n = fptosi 32 (num r c n) := rfl
/-- Layer 1's residual. -/
theorem pay_next1 : k0_pay27 numbers r (k0_pay20 h) (rowNorms r) (k0_pay24 c) (constant S1024x1024 .f32 0x00000000#32) n m l = step r c n h m l := rfl
/-- Layer 2's squared lengths, folded to two rows less one addition: the two summands. -/
def halves (r : FVec F S1024x256 .f32) : FVec F S4x1024 .f32 :=
  addf (extractStridedSlice S4x1024 ![0, 0] (slabSum (squares r)) slices_S8x1024_o0_0_S4x1024) (extractStridedSlice S4x1024 ![4, 0] (slabSum (squares r)) slices_S8x1024_o4_0_S4x1024)
@[inherit_doc halves] theorem pay_halves2 : k0_pay33 (k0_pay29 numbers r (k0_pay20 h) (rowNorms r) (k0_pay24 c) (constant S1024x1024 .f32 0x00000000#32) n m l) (k0_pay30 numbers r (k0_pay20 h) (rowNorms r) (k0_pay24 c) (constant S1024x1024 .f32 0x00000000#32) n m l) (k0_pay31 numbers r (k0_pay20 h) (rowNorms r) (k0_pay24 c) (constant S1024x1024 .f32 0x00000000#32) n m l) = extractStridedSlice S2x1024 ![0, 0] (halves (step r c n h m l)) slices_S4x1024_o0_0_S2x1024 := rfl
@[inherit_doc halves] theorem pay_halves2' : k0_pay34 (k0_pay29 numbers r (k0_pay20 h) (rowNorms r) (k0_pay24 c) (constant S1024x1024 .f32 0x00000000#32) n m l) (k0_pay30 numbers r (k0_pay20 h) (rowNorms r) (k0_pay24 c) (constant S1024x1024 .f32 0x00000000#32) n m l) (k0_pay31 numbers r (k0_pay20 h) (rowNorms r) (k0_pay24 c) (constant S1024x1024 .f32 0x00000000#32) n m l) = extractStridedSlice S2x1024 ![2, 0] (halves (step r c n h m l)) slices_S4x1024_o2_0_S2x1024 := rfl
/-- Layer 2's numbers. -/
theorem pay_ids2 : k0_pay36 numbers r (extractStridedSlice S2x1024 ![0, 0] (halves r) slices_S4x1024_o0_0_S2x1024) (extractStridedSlice S2x1024 ![2, 0] (halves r) slices_S4x1024_o2_0_S2x1024) c n = fptosi 32 (num r c n) := rfl
/-- Layer 2's residual. -/
theorem pay_next2 : k0_pay37 numbers r (k0_pay28 h) (extractStridedSlice S2x1024 ![0, 0] (halves r) slices_S4x1024_o0_0_S2x1024) (extractStridedSlice S2x1024 ![2, 0] (halves r) slices_S4x1024_o2_0_S2x1024) c n m l = step r c n h m l := rfl
/-- Layer 3's slabs but the last, and the last. -/
theorem pay_slabs3 : addf (k0_pay41 (k0_pay38 numbers r (k0_pay28 h) (extractStridedSlice S2x1024 ![0, 0] (halves r) slices_S4x1024_o0_0_S2x1024) (extractStridedSlice S2x1024 ![2, 0] (halves r) slices_S4x1024_o2_0_S2x1024) c n m l) (k0_pay39 numbers r (k0_pay28 h) (extractStridedSlice S2x1024 ![0, 0] (halves r) slices_S4x1024_o0_0_S2x1024) (extractStridedSlice S2x1024 ![2, 0] (halves r) slices_S4x1024_o2_0_S2x1024) c n m l) (k0_pay40 numbers r (k0_pay28 h) (extractStridedSlice S2x1024 ![0, 0] (halves r) slices_S4x1024_o0_0_S2x1024) (extractStridedSlice S2x1024 ![2, 0] (halves r) slices_S4x1024_o2_0_S2x1024) c n m l)) (k0_pay42 (k0_pay38 numbers r (k0_pay28 h) (extractStridedSlice S2x1024 ![0, 0] (halves r) slices_S4x1024_o0_0_S2x1024) (extractStridedSlice S2x1024 ![2, 0] (halves r) slices_S4x1024_o2_0_S2x1024) c n m l)) = slabSum (squares (step r c n h m l)) := rfl
/-- Layer 3's numbers, and the four layers' side by side. -/
theorem pay_ids3 (i0 i1 i2 : FVec F S1024x1 .f32) (a a' : FVec F S8x1024 .f32) (e : addf a a' = slabSum (squares r)) :
    k0_pay1 numbers (fptosi 32 i0) (fptosi 32 i1) (fptosi 32 i2) r a a' c n = stack i0 i1 i2 (num r c n) := by
  unfold k0_pay1
  rw [e]
  rfl

/-- At a later point: the block's ids, over the buffers as the first point left them. -/
theorem out_B (c : Dev nD) (i : grid0.Coords) (arg1 : Memref sig .tc .vmem S1024x768 .f32) (harg1 : arg1.IsWhole) (arg2 : Memref sig .tc .vmem S768x256 .f32) (harg2 : arg2.IsWhole) (arg3 : Memref sig .tc .vmem S1x256 .f32) (harg3 : arg3.IsWhole) (arg4 : Memref sig .tc .vmem S4x1024x256 .f32) (harg4 : arg4.IsWhole) (arg5 : Memref sig .tc .vmem S4x1024 .f32) (harg5 : arg5.IsWhole) (arg6 : Memref sig .tc .vmem S1024x4 .i32) (harg6 : arg6.IsWhole) (arg7 : Memref sig .tc .vmem S4x1024x256 .bf16) (harg7 : arg7.IsWhole) (arg8 : Memref sig .tc .vmem S4x1024x256 .bf16) (harg8 : arg8.IsWhole) (arg9 : Memref sig .tc .vmem S4x1024x256 .bf16) (harg9 : arg9.IsWhole) (arg10 : Memref sig .tc .vmem S4x1024x256 .bf16) (harg10 : arg10.IsWhole) (hc0 : ¬cond0_0 i)
    (x0 : Vec F S1024x768 .f32) (x1 : Vec F S768x256 .f32) (x2 : Vec F S1x256 .f32) (x3 : Vec F S4x1024x256 .f32) (x4 : Vec F S4x1024 .f32) (xs0 xs1 xs2 xs3 : Vec F S4x1024x256 .bf16) :
    out0_B_5 c i arg1 harg1 arg2 harg2 arg3 harg3 arg4 harg4 arg5 harg5 arg6 harg6 arg7 harg7 arg8 harg8 arg9 harg9 arg10 harg10 hc0 x0 x1 x2 x3 x4 xs0 xs1 xs2 xs3 = blockIds (enc x0 x1 x2) xs0 xs1 xs2 xs3 x4 := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 hc0 x0 x1 x2 x3 x4 xs0 xs1 xs2 xs3)]
  unfold kernelRun0_B
  dsimp only
  sl_unfold_words
  rw [View.canon_unit_zero (by decide)]
  simp only [View.readAt_eq_ld, harg1.read_unread, harg2.read_unread, harg3.read_unread, harg5.read_unread, harg7.read_unread, harg8.read_unread, harg9.read_unread, harg10.read_unread]
  rw [View.ld_unit_zero (by decide), View.ld_unit_zero (by decide), View.ld_unit_zero (by decide)]
  simp only [pay_enc, pay_numbers, pay_dist0, pay_least0, pay_ids0, pay_next0, pay_norms1, pay_ids1, pay_next1, pay_halves2, pay_halves2', pay_ids2, pay_next2]
  exact pay_ids3 _ _ _ _ _ _ _ _ (pay_slabs3 _ _ _ _ _ _)

/-- A load of what one store of a whole buffer left is the load of what was stored. -/
theorem readCov_whole {S : Shape} {e : EltTy} (v : View sig .tc .vmem S e) {off : Fin S.rank → ℕ} (ho : off = fun _ => 0)
    (inb : ∀ a, off a + S.size a ≤ S.size a) (w : S.Idx → Elt F e) (B : Rect S) :
    v.readCov [(⟨Rect.unit off S.size inb, w⟩ : View.Piece (Elt F) S e)] B.toLoadRect = View.ld w B := by
  rw [View.readCov_eq_canon_ld _ _ _ (fun y => ⟨_, List.mem_singleton_self _, View.mem_set_unit_zero ho inb y⟩), View.canon_unit_zero ho]

/-- At the first point: the block's ids, over the buffers the point has just filled. -/
theorem out_A (c : Dev nD) (i : grid0.Coords) (arg1 : Memref sig .tc .vmem S1024x768 .f32) (harg1 : arg1.IsWhole) (arg2 : Memref sig .tc .vmem S768x256 .f32) (harg2 : arg2.IsWhole) (arg3 : Memref sig .tc .vmem S1x256 .f32) (harg3 : arg3.IsWhole) (arg4 : Memref sig .tc .vmem S4x1024x256 .f32) (harg4 : arg4.IsWhole) (arg5 : Memref sig .tc .vmem S4x1024 .f32) (harg5 : arg5.IsWhole) (arg6 : Memref sig .tc .vmem S1024x4 .i32) (harg6 : arg6.IsWhole) (arg7 : Memref sig .tc .vmem S4x1024x256 .bf16) (harg7 : arg7.IsWhole) (arg8 : Memref sig .tc .vmem S4x1024x256 .bf16) (harg8 : arg8.IsWhole) (arg9 : Memref sig .tc .vmem S4x1024x256 .bf16) (harg9 : arg9.IsWhole) (arg10 : Memref sig .tc .vmem S4x1024x256 .bf16) (harg10 : arg10.IsWhole) (hc0 : cond0_0 i)
    (x0 : Vec F S1024x768 .f32) (x1 : Vec F S768x256 .f32) (x2 : Vec F S1x256 .f32) (x3 : Vec F S4x1024x256 .f32) (x4 : Vec F S4x1024 .f32) :
    out0_A_5 c i arg1 harg1 arg2 harg2 arg3 harg3 arg4 harg4 arg5 harg5 arg6 harg6 arg7 harg7 arg8 harg8 arg9 harg9 arg10 harg10 hc0 x0 x1 x2 x3 x4 = blockIds (enc x0 x1 x2) (k0_pay4 x3) (k0_pay3 x3) (k0_pay7 x3) (k0_pay8 x3) x4 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 hc0 x0 x1 x2 x3 x4)]
  unfold kernelRun0_A
  dsimp only
  sl_unfold_words
  rw [View.canon_unit_zero (by decide)]
  simp only [View.readAt_eq_ld, harg1.read_unread, harg2.read_unread, harg3.read_unread, harg4.read_unread, harg5.read_unread]
  simp only [readCov_whole (S := S4x1024x256) _ (show (![0, 0, 0] : Fin 3 → ℕ) = fun _ => 0 by decide)]
  rw [View.ld_unit_zero (S := S4x1024x256) (by decide)]
  rw [View.ld_unit_zero (by decide), View.ld_unit_zero (by decide), View.ld_unit_zero (by decide)]
  simp only [pay_enc, pay_numbers, pay_dist0, pay_least0, pay_ids0, pay_next0, pay_norms1, pay_ids1, pay_next1, pay_halves2, pay_halves2', pay_ids2, pay_next2]
  exact pay_ids3 _ _ _ _ _ _ _ _ (pay_slabs3 _ _ _ _ _ _)

/-- At the first point: what the buffer is filled with. -/
theorem sout_A_0 (c : Dev nD) (i : grid0.Coords) (arg1 : Memref sig .tc .vmem S1024x768 .f32) (harg1 : arg1.IsWhole) (arg2 : Memref sig .tc .vmem S768x256 .f32) (harg2 : arg2.IsWhole) (arg3 : Memref sig .tc .vmem S1x256 .f32) (harg3 : arg3.IsWhole) (arg4 : Memref sig .tc .vmem S4x1024x256 .f32) (harg4 : arg4.IsWhole) (arg5 : Memref sig .tc .vmem S4x1024 .f32) (harg5 : arg5.IsWhole) (arg6 : Memref sig .tc .vmem S1024x4 .i32) (harg6 : arg6.IsWhole) (arg7 : Memref sig .tc .vmem S4x1024x256 .bf16) (harg7 : arg7.IsWhole) (arg8 : Memref sig .tc .vmem S4x1024x256 .bf16) (harg8 : arg8.IsWhole) (arg9 : Memref sig .tc .vmem S4x1024x256 .bf16) (harg9 : arg9.IsWhole) (arg10 : Memref sig .tc .vmem S4x1024x256 .bf16) (harg10 : arg10.IsWhole) (hc0 : cond0_0 i)
    (x0 : Vec F S1024x768 .f32) (x1 : Vec F S768x256 .f32) (x2 : Vec F S1x256 .f32) (x3 : Vec F S4x1024x256 .f32) (x4 : Vec F S4x1024 .f32) :
    sout0_A_0 c i arg1 harg1 arg2 harg2 arg3 harg3 arg4 harg4 arg5 harg5 arg6 harg6 arg7 harg7 arg8 harg8 arg9 harg9 arg10 harg10 hc0 x0 x1 x2 x3 x4 = k0_pay4 x3 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 x0 x1 x2 x3 x4)]
  unfold kernelRun0_A
  dsimp only
  sl_unfold_words
  rw [View.canon_unit_zero (by decide)]
  simp only [View.readAt_eq_ld, harg4.read_unread]
  rw [View.ld_unit_zero (S := S4x1024x256) (by decide)]

/-- At the first point: what the buffer is filled with. -/
theorem sout_A_1 (c : Dev nD) (i : grid0.Coords) (arg1 : Memref sig .tc .vmem S1024x768 .f32) (harg1 : arg1.IsWhole) (arg2 : Memref sig .tc .vmem S768x256 .f32) (harg2 : arg2.IsWhole) (arg3 : Memref sig .tc .vmem S1x256 .f32) (harg3 : arg3.IsWhole) (arg4 : Memref sig .tc .vmem S4x1024x256 .f32) (harg4 : arg4.IsWhole) (arg5 : Memref sig .tc .vmem S4x1024 .f32) (harg5 : arg5.IsWhole) (arg6 : Memref sig .tc .vmem S1024x4 .i32) (harg6 : arg6.IsWhole) (arg7 : Memref sig .tc .vmem S4x1024x256 .bf16) (harg7 : arg7.IsWhole) (arg8 : Memref sig .tc .vmem S4x1024x256 .bf16) (harg8 : arg8.IsWhole) (arg9 : Memref sig .tc .vmem S4x1024x256 .bf16) (harg9 : arg9.IsWhole) (arg10 : Memref sig .tc .vmem S4x1024x256 .bf16) (harg10 : arg10.IsWhole) (hc0 : cond0_0 i)
    (x0 : Vec F S1024x768 .f32) (x1 : Vec F S768x256 .f32) (x2 : Vec F S1x256 .f32) (x3 : Vec F S4x1024x256 .f32) (x4 : Vec F S4x1024 .f32) :
    sout0_A_1 c i arg1 harg1 arg2 harg2 arg3 harg3 arg4 harg4 arg5 harg5 arg6 harg6 arg7 harg7 arg8 harg8 arg9 harg9 arg10 harg10 hc0 x0 x1 x2 x3 x4 = k0_pay3 x3 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 x0 x1 x2 x3 x4)]
  unfold kernelRun0_A
  dsimp only
  sl_unfold_words
  rw [View.canon_unit_zero (by decide)]
  simp only [View.readAt_eq_ld, harg4.read_unread]
  rw [View.ld_unit_zero (S := S4x1024x256) (by decide)]

/-- At the first point: what the buffer is filled with. -/
theorem sout_A_2 (c : Dev nD) (i : grid0.Coords) (arg1 : Memref sig .tc .vmem S1024x768 .f32) (harg1 : arg1.IsWhole) (arg2 : Memref sig .tc .vmem S768x256 .f32) (harg2 : arg2.IsWhole) (arg3 : Memref sig .tc .vmem S1x256 .f32) (harg3 : arg3.IsWhole) (arg4 : Memref sig .tc .vmem S4x1024x256 .f32) (harg4 : arg4.IsWhole) (arg5 : Memref sig .tc .vmem S4x1024 .f32) (harg5 : arg5.IsWhole) (arg6 : Memref sig .tc .vmem S1024x4 .i32) (harg6 : arg6.IsWhole) (arg7 : Memref sig .tc .vmem S4x1024x256 .bf16) (harg7 : arg7.IsWhole) (arg8 : Memref sig .tc .vmem S4x1024x256 .bf16) (harg8 : arg8.IsWhole) (arg9 : Memref sig .tc .vmem S4x1024x256 .bf16) (harg9 : arg9.IsWhole) (arg10 : Memref sig .tc .vmem S4x1024x256 .bf16) (harg10 : arg10.IsWhole) (hc0 : cond0_0 i)
    (x0 : Vec F S1024x768 .f32) (x1 : Vec F S768x256 .f32) (x2 : Vec F S1x256 .f32) (x3 : Vec F S4x1024x256 .f32) (x4 : Vec F S4x1024 .f32) :
    sout0_A_2 c i arg1 harg1 arg2 harg2 arg3 harg3 arg4 harg4 arg5 harg5 arg6 harg6 arg7 harg7 arg8 harg8 arg9 harg9 arg10 harg10 hc0 x0 x1 x2 x3 x4 = k0_pay7 x3 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 hc0 x0 x1 x2 x3 x4)]
  unfold kernelRun0_A
  dsimp only
  sl_unfold_words
  rw [View.canon_unit_zero (by decide)]
  simp only [View.readAt_eq_ld, harg4.read_unread]
  rw [View.ld_unit_zero (S := S4x1024x256) (by decide)]

/-- At the first point: what the buffer is filled with. -/
theorem sout_A_3 (c : Dev nD) (i : grid0.Coords) (arg1 : Memref sig .tc .vmem S1024x768 .f32) (harg1 : arg1.IsWhole) (arg2 : Memref sig .tc .vmem S768x256 .f32) (harg2 : arg2.IsWhole) (arg3 : Memref sig .tc .vmem S1x256 .f32) (harg3 : arg3.IsWhole) (arg4 : Memref sig .tc .vmem S4x1024x256 .f32) (harg4 : arg4.IsWhole) (arg5 : Memref sig .tc .vmem S4x1024 .f32) (harg5 : arg5.IsWhole) (arg6 : Memref sig .tc .vmem S1024x4 .i32) (harg6 : arg6.IsWhole) (arg7 : Memref sig .tc .vmem S4x1024x256 .bf16) (harg7 : arg7.IsWhole) (arg8 : Memref sig .tc .vmem S4x1024x256 .bf16) (harg8 : arg8.IsWhole) (arg9 : Memref sig .tc .vmem S4x1024x256 .bf16) (harg9 : arg9.IsWhole) (arg10 : Memref sig .tc .vmem S4x1024x256 .bf16) (harg10 : arg10.IsWhole) (hc0 : cond0_0 i)
    (x0 : Vec F S1024x768 .f32) (x1 : Vec F S768x256 .f32) (x2 : Vec F S1x256 .f32) (x3 : Vec F S4x1024x256 .f32) (x4 : Vec F S4x1024 .f32) :
    sout0_A_3 c i arg1 harg1 arg2 harg2 arg3 harg3 arg4 harg4 arg5 harg5 arg6 harg6 arg7 harg7 arg8 harg8 arg9 harg9 arg10 harg10 hc0 x0 x1 x2 x3 x4 = k0_pay8 x3 := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 hc0 x0 x1 x2 x3 x4)]
  unfold kernelRun0_A
  dsimp only
  sl_unfold_words
  rw [View.canon_unit_zero (by decide)]
  simp only [View.readAt_eq_ld, harg4.read_unread]
  rw [View.ld_unit_zero (S := S4x1024x256) (by decide)]

end Cert.Proof.Ker

end
-- ==== Proof.KerPoints.lean ====
/-
  What the kernel's staging buffers hold after each grid point: the ids of the point's block of rows, and the four
  codebook buffers as the first point filled them.
-/
module

public import proofs.«01_k».proof.Proof.KerBlock
public import Idealize.ShloMosaic.Lib.Pipeline.ValueKit

@[expose] public section

noncomputable section

namespace Cert.Proof.Ker

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-! ## The windows' blocks -/

/-- Which block each window shows at a point: of the inputs and of the ids the point's own, of the other arrays the only one. -/
theorem index0 : ∀ t : Fin cfg0.N, win0_0.index t = ![t.val, 0] := (by decide +kernel : ∀ t : Fin grid0.N, _)
@[inherit_doc index0] theorem index1 : ∀ t : Fin cfg0.N, win0_1.index t = ![0, 0] := (by decide +kernel : ∀ t : Fin grid0.N, _)
@[inherit_doc index0] theorem index2 : ∀ t : Fin cfg0.N, win0_2.index t = ![0, 0] := (by decide +kernel : ∀ t : Fin grid0.N, _)
@[inherit_doc index0] theorem index3 : ∀ t : Fin cfg0.N, win0_3.index t = ![0, 0, 0] := (by decide +kernel : ∀ t : Fin grid0.N, _)
@[inherit_doc index0] theorem index4 : ∀ t : Fin cfg0.N, win0_4.index t = ![0, 0] := (by decide +kernel : ∀ t : Fin grid0.N, _)
@[inherit_doc index0] theorem index5 : ∀ t : Fin cfg0.N, win0_5.index t = ![t.val, 0] := (by decide +kernel : ∀ t : Fin grid0.N, _)

/-- The weights, the bias, the codebooks and their squared lengths are read whole at every point. -/
theorem iblk1 (c : Dev nD) (t : Fin cfg0.N) : (iblk m c 1 t : FVec F S768x256 .f32) = m ((c : Thread nD τ).loc main_arg1) := by
  rw [← V_main_arg1 m c]
  funext y
  blk_simp [iblk]
  blk_ext [index1]
@[inherit_doc iblk1] theorem iblk2 (c : Dev nD) (t : Fin cfg0.N) : (iblk m c 2 t : FVec F S1x256 .f32) = V m c main_v0 := by
  funext y
  blk_simp [iblk]
  blk_ext [index2]
@[inherit_doc iblk1] theorem iblk3 (c : Dev nD) (t : Fin cfg0.N) : (iblk m c 3 t : FVec F S4x1024x256 .f32) = m ((c : Thread nD τ).loc main_arg3) := by
  rw [← V_main_arg3 m c]
  funext y
  blk_simp [iblk]
  blk_ext [index3]
@[inherit_doc iblk1] theorem iblk4 (c : Dev nD) (t : Fin cfg0.N) : (iblk m c 4 t : FVec F S4x1024 .f32) = V m c main_call0_v28 := by
  funext y
  blk_simp [iblk]
  blk_ext [index4]

/-! ## After every point -/

/-- The codebooks. -/
abbrev books (c : Dev nD) : FVec F S4x1024x256 .f32 := m ((c : Thread nD τ).loc main_arg3)

/-- The first residuals of the rows of block `t`. -/
def first (c : Dev nD) (t : Fin cfg0.N) : FVec F S1024x256 .f32 :=
  enc (iblk m c 0 t) (m ((c : Thread nD τ).loc main_arg1)) (V m c main_v0)

/-- The ids of the rows of block `t`. -/
def blockAt (c : Dev nD) (t : Fin cfg0.N) : IVec S1024x4 32 :=
  blockIds (first m c t) (k0_pay4 (books m c)) (k0_pay3 (books m c)) (k0_pay7 (books m c)) (k0_pay8 (books m c)) (V m c main_call0_v28)

/-- After every point the buffers hold the block's ids and the four pieces of the codebooks. -/
theorem outsAt_eq (c : Dev nD) : ∀ (n : ℕ) (h : n < cfg0.N), outsAt0 m c n h
    = (blockAt m c ⟨n, h⟩, k0_pay4 (books m c), k0_pay3 (books m c), k0_pay7 (books m c), k0_pay8 (books m c))
  | 0, h => by
    refine (outsAt0_A m c ⟨0, h⟩ rfl).trans ?_
    rw [out_A, sout_A_0, sout_A_1, sout_A_2, sout_A_3, iblk1, iblk2, iblk3, iblk4]
    rfl
  | n + 1, h => by
    have hN : cfg0.N = 4 := N_0
    have hB : ¬(⟨n + 1, h⟩ : Fin cfg0.N).val % 4 = 0 := by dsimp only; omega
    refine (outsAt0_B m c ⟨n + 1, h⟩ hB).trans ?_
    rw [out_B, iblk1, iblk2, iblk4]
    have ih := outsAt_eq c n (Nat.lt_of_succ_lt h)
    have e : ∀ h', outsAt0 m c ((⟨n + 1, h⟩ : Fin cfg0.N).val - 1) h' = (blockAt m c ⟨n, Nat.lt_of_succ_lt h⟩, k0_pay4 (books m c), k0_pay3 (books m c), k0_pay7 (books m c), k0_pay8 (books m c)) := fun _ => ih
    simp only [sout0_B_0, sout0_B_1, sout0_B_2, sout0_B_3, e]
    rfl

/-- The array of ids after the run, from what it holds under each block. -/
theorem final_ids (c : Dev nD) (G : IVec S4096x4 32)
    (hG : ∀ (t : Fin cfg0.N) (y : S1024x4.Idx), blockAt m c t y = G ((win0_5.blk t).view.emb y)) :
    (dats m 0 c).arrAt 5 cfg0.N = G := by
  refine (dats m 0 c).arrAt_eq_of_covers 5 _ (by decide +kernel) fun t hf y => ?_
  blk_simp
  rw [after0_5, outsAt_eq]
  exact hG t y

end Cert.Proof.Ker

end
-- ==== Proof.KerHost.lean ====
/-
  The host's lines around the kernel: the bias as one row, the squared lengths of the codebooks' entries, and, after the
  kernel, the decoder on the ids.
-/
module

public import proofs.«01_k».proof.Proof.KerPoints
public import Idealize.ShloMosaic.Lib.Claim
public import Idealize.ShloMosaic.Lib.StableHlo.RunRead

@[expose] public section

set_option maxRecDepth 65536

noncomputable section

namespace Cert.Proof.Ker

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The bias as one row. -/
theorem V_bias (c : Dev nD) : (V m c main_v0 : FVec F S1x256 .f32) = shapeCast S1x256 (m ((c : Thread nD τ).loc main_arg2)) shapeCasts_S256_S1x256 := by
  show StableHlo.after (List.flatten [hostOps0, hostOps0_1]) _ _ = _
  simp only [hostOps0, hostOps0_1, List.flatten_cons, List.flatten_nil, List.append_nil, List.cons_append, List.nil_append]
  after_results
  rfl

/-- The squared lengths of the entries of one codebook, as a row. -/
def norms1 (o : Fin 3 → ℕ) (h : S4x1024x256.Slices o S1x1024x256) (z : FVec F S4x1024x256 .f32) : FVec F S1x1024 .f32 :=
  broadcastInDim S1x1024 ![1] bcast_S1024_S1x1024_1
    (Host.reduceAdd
      (mulf (shapeCast S1024x256 (extractStridedSlice S1x1024x256 o z h) shapeCasts_S1x1024x256_S1024x256)
        (shapeCast S1024x256 (extractStridedSlice S1x1024x256 o z h) shapeCasts_S1x1024x256_S1024x256))
      (constant S_ .f32 0x00000000#32) reducesTo_S1024x256_S1024_d1 h_S_)

/-- The squared lengths of all entries. -/
def norms (z : FVec F S4x1024x256 .f32) : FVec F S4x1024 .f32 :=
  concatenate S4x1024 0
    [⟨S1x1024, norms1 ![0, 0, 0] slices_S4x1024x256_S1x1024x256_0_0_0 z⟩, ⟨S1x1024, norms1 ![1, 0, 0] slices_S4x1024x256_S1x1024x256_1_0_0 z⟩,
     ⟨S1x1024, norms1 ![2, 0, 0] slices_S4x1024x256_S1x1024x256_2_0_0 z⟩, ⟨S1x1024, norms1 ![3, 0, 0] slices_S4x1024x256_S1x1024x256_3_0_0 z⟩]
    concatenates_S1x1024_S1x1024_S1x1024_S1x1024_S4x1024_d0

/-- The squared lengths the host hands to the kernel. -/
theorem V_norms (c : Dev nD) : (V m c main_call0_v28 : FVec F S4x1024 .f32) = norms (m ((c : Thread nD τ).loc main_arg3)) := by
  show StableHlo.after (List.flatten [hostOps0, hostOps0_1]) _ _ = _
  simp only [hostOps0, hostOps0_1, List.flatten_cons, List.flatten_nil, List.append_nil, List.cons_append, List.nil_append]
  after_results
  rfl

/-- The decoder on the ids. -/
def decode (i : IVec S4096x4 32) (W : FVec F S4x256 .f32) (b : FVec F S256 .f32) : FVec F S4096x256 .f32 :=
  addf (Host.dotGeneral dot_S4096x4_S4x256_S4096x256_1_0_0_1_n_n none (sitofp .f32 i) W)
    (broadcastInDim S4096x256 ![0, 1] bcast_S1x256_S4096x256_0_1 (broadcastInDim S1x256 ![1] bcast_S256_S1x256_1 b))

/-- The lines after the kernel decode the ids. -/
theorem tail_recon (X : Valuation τ sig (Elt F)) :
    StableHlo.after (List.flatten [hostOps1]) X (main_v1_0 : DevRef τ sig)
      = decode (X (main_v1_1 : DevRef τ sig)) (X (main_arg4 : DevRef τ sig)) (X (main_arg5 : DevRef τ sig)) := by
  simp only [hostOps1, List.flatten_cons, List.flatten_nil, List.append_nil, List.cons_append, List.nil_append]
  after_results
  rfl

/-! ## The run -/

/-- The buffer of the first result is no window's array. -/
theorem recon_rest : main_v1_0 ∈ Pipeline.restRefs sig (cfgs 0).spec := Pipeline.mem_restRefs_of main_v1_0 (by decide) (by decide)

/-- The first result, from what the array of ids holds. -/
theorem recon_eq (c : Dev nD) (G : IVec S4096x4 32) (hG : (dats m 0 c).arrAt 5 cfg0.N = G) :
    Pipeline.afterTail₀ cfgs (dats m) 0 (V0 m) [hostOps1] c main_v1_0
      = decode G (m ((c : Thread nD τ).loc main_arg4)) (m ((c : Thread nD τ).loc main_arg5)) := by
  unfold Pipeline.afterTail₀
  refine (tail_recon _).trans ?_
  have e1 : Pipeline.withArrays spec0 c (V0 m c) (fun w => (dats m 0 c).arrAt w cfg0.N) (main_v1_1 : DevRef τ sig) = G :=
    (Pipeline.withArrays_arr spec0 launch0.win.arr_inj c (V0 m c) (fun w => (dats m 0 c).arrAt w cfg0.N) 5).trans hG
  have e4 : Pipeline.withArrays spec0 c (V0 m c) (fun w => (dats m 0 c).arrAt w cfg0.N) (main_arg4 : DevRef τ sig) = m ((c : Thread nD τ).loc main_arg4) :=
    (Pipeline.withArrays_of_ne spec0 c (V0 m c) _ main_arg4 (by decide)).trans (V_main_arg4 m c)
  have e5 : Pipeline.withArrays spec0 c (V0 m c) (fun w => (dats m 0 c).arrAt w cfg0.N) (main_arg5 : DevRef τ sig) = m ((c : Thread nD τ).loc main_arg5) :=
    (Pipeline.withArrays_of_ne spec0 c (V0 m c) _ main_arg5 (by decide)).trans (V_main_arg5 m c)
  exact congr (congr (congrArg decode e1) e4) e5

/-- The run, when every point leaves its block of the ids `G`: both results, and the arguments as they were. -/
theorem run (g : Dev nD → PrngReg) (G : Dev nD → IVec S4096x4 32)
    (hG : ∀ (c : Dev nD) (t : Fin cfg0.N) (y : S1024x4.Idx), blockAt m c t y = G c ((win0_5.blk t).view.emb y)) :
    θ_run defs (onTc (τ := τ) (main (F := F))) ⟨m, fun _ => 0, g⟩ fun r => ∀ c : Dev nD,
      r.2.mem ((c : Thread nD τ).loc main_v1_0) = decode (G c) (m ((c : Thread nD τ).loc main_arg4)) (m ((c : Thread nD τ).loc main_arg5))
      ∧ r.2.mem ((c : Thread nD τ).loc main_v1_1) = G c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ?_) (run_main m g)
  have hids : (dats m 0 c).arrAt 5 cfg0.N = G c := final_ids m c (G c) (hG c)
  exact ⟨(h.rest_eq c main_v1_0 recon_rest).trans (recon_eq m c (G c) hids), (h.out_eq c 5).trans hids,
    (h.in_eq c 0 rfl).trans (V_main_arg0 m c), (h.in_eq c 1 rfl).trans (V_main_arg1 m c),
    (h.rest_eq c main_arg2 (Pipeline.mem_restRefs_of main_arg2 (by decide) (by decide))).trans (W_main_arg2 m (dats m) c),
    (h.in_eq c 3 rfl).trans (V_main_arg3 m c),
    (h.rest_eq c main_arg4 (Pipeline.mem_restRefs_of main_arg4 (by decide) (by decide))).trans (W_main_arg4 m (dats m) c),
    (h.rest_eq c main_arg5 (Pipeline.mem_restRefs_of main_arg5 (by decide) (by decide))).trans (W_main_arg5 m (dats m) c)⟩

end Cert.Proof.Ker

end
-- ==== Proof.Spec.lean ====
/-
  The mathematics of one quantizer layer on one row, over the extended reals: the squared distances of a residual row to
  a codebook's entries, the first entry at the least distance, and the residual handed on. Both programs are read as
  this; the lemmas below are the two ways of finding the first least entry (a minimum taken twice, and a fold of pairs),
  the sum of 256 terms taken in slabs of eight, and the product with a row of zeros and a single one.
-/
module

public import Idealize.ShloMosaic.PureOps.Ideal.Laws
public import Mathlib.Data.EReal.Inv

@[expose] public section

noncomputable section

namespace Cert.Proof.Spec

open Finset

/-! ## The first least entry -/

/-- Among 1024 distances some entry comes first with the least of them. -/
theorem exists_first (d : Fin 1024 → EReal) : ∃ k, (∀ j, d k ≤ d j) ∧ ∀ j, j < k → d k < d j := by
  obtain ⟨m, -, hm⟩ := Finset.exists_min_image univ d ⟨0, mem_univ _⟩
  have hne : (univ.filter fun k => ∀ j, d k ≤ d j).Nonempty := ⟨m, by simpa using hm⟩
  refine ⟨_, (mem_filter.1 (Finset.min'_mem _ hne)).2, fun j hj => ?_⟩
  by_contra hle
  refine absurd hj (not_lt.2 (Finset.min'_le _ _ (mem_filter.2 ⟨mem_univ _, fun i => ?_⟩)))
  exact (not_lt.1 hle).trans ((mem_filter.1 (Finset.min'_mem _ hne)).2 i)

/-- The first entry at the least distance. -/
def first (d : Fin 1024 → EReal) : Fin 1024 := Classical.choose (exists_first d)

/-- Its value is least. -/
theorem first_le (d : Fin 1024 → EReal) (j : Fin 1024) : d (first d) ≤ d j := (Classical.choose_spec (exists_first d)).1 j

/-- Every entry before it is greater. -/
theorem first_lt (d : Fin 1024 → EReal) {j : Fin 1024} (h : j < first d) : d (first d) < d j :=
  (Classical.choose_spec (exists_first d)).2 j h

/-- An entry with these two properties is the first. -/
theorem first_eq (d : Fin 1024 → EReal) {k : Fin 1024} (h : ∀ j, d k ≤ d j) (h' : ∀ j, j < k → d k < d j) : first d = k := by
  rcases lt_trichotomy (first d) k with hlt | he | hgt
  · exact absurd (h' _ hlt) (not_lt.2 (first_le d k))
  · exact he
  · exact absurd (first_lt d hgt) (not_lt.2 (h _))

/-- A minimum over all entries, from plus infinity, is the value of an entry below all others. -/
theorem fold_min (f : Fin 1024 → EReal) {k : Fin 1024} (h : ∀ j, f k ≤ f j) : univ.fold min ⊤ f = f k :=
  le_antisymm ((Finset.fold_min_le _).2 (.inr ⟨k, mem_univ _, le_rfl⟩))
    ((Finset.le_fold_min _).2 ⟨le_top, fun j _ => h j⟩)

/-- The least number among the entries at the least distance, the others counted as 1024, is the first entry's. -/
theorem fold_first (d : Fin 1024 → EReal) :
    univ.fold min ⊤ (fun k => if d k = univ.fold min ⊤ d then (((k : ℕ) : ℝ) : EReal) else ((1024 : ℝ) : EReal))
      = (((first d : ℕ) : ℝ) : EReal) := by
  rw [fold_min d (first_le d)]
  rw [fold_min (k := first d)]
  · exact if_pos rfl
  · intro j
    rw [if_pos rfl]
    split_ifs with h
    · rw [EReal.coe_le_coe_iff, Nat.cast_le]
      by_contra hlt
      exact absurd (first_lt d (j := j) (Fin.lt_def.2 (not_le.1 hlt))) (by rw [h]; exact lt_irrefl _)
    · rw [EReal.coe_le_coe_iff]
      exact_mod_cast (first d).isLt.le

/-- One step of the search with a running pair: the lesser distance, and on equal distances the lesser number. -/
def lesser (a b : EReal × BitVec 32) : EReal × BitVec 32 :=
  (if a.1 < b.1 then a.1 else b.1, if a.1 < b.1 ∨ (a.1 = b.1 ∧ a.2.slt b.2 = true) then a.2 else b.2)

/-- Numbers below 1024 compare as words as they do as numbers. -/
theorem slt_ofNat {a b : ℕ} (ha : a < 1024) (hb : b < 1024) :
    (BitVec.ofNat 32 a).slt (BitVec.ofNat 32 b) = true ↔ a < b := by
  have e : ∀ n : ℕ, n < 1024 → (BitVec.ofNat 32 n).toInt = (n : ℤ) := fun n hn => by
    rw [BitVec.toInt_ofNat', Int.bmod_eq_of_le (by omega) (by omega)]
  rw [BitVec.slt_iff_toInt_lt, e a ha, e b hb]
  omega

/-- What the search holds after `n` entries: plus infinity and the number zero when all of them were plus infinity,
    else the first of them at the least distance. -/
theorem lesser_range (d : ℕ → EReal) (n : ℕ) (hn : n ≤ 1024) :
    (∀ j < n, ((List.range n).foldl (fun s k => lesser s (d k, BitVec.ofNat 32 k)) (⊤, 0#32)).1 ≤ d j) ∧
    (((List.range n).foldl (fun s k => lesser s (d k, BitVec.ofNat 32 k)) (⊤, 0#32) = (⊤, 0#32) ∧ ∀ j < n, d j = ⊤) ∨
      ∃ k < n, (List.range n).foldl (fun s k => lesser s (d k, BitVec.ofNat 32 k)) (⊤, 0#32) = (d k, BitVec.ofNat 32 k)
        ∧ ∀ j < k, d k < d j) := by
  induction n with
  | zero => exact ⟨fun j h => absurd h (Nat.not_lt_zero j), .inl ⟨rfl, fun j h => absurd h (Nat.not_lt_zero j)⟩⟩
  | succ n ih =>
    obtain ⟨hle, hs⟩ := ih (by omega)
    rw [List.range_succ, List.foldl_append, List.foldl_cons, List.foldl_nil]
    generalize (List.range n).foldl (fun s k => lesser s (d k, BitVec.ofNat 32 k)) (⊤, 0#32) = s at hle hs ⊢
    refine ⟨fun j hj => ?_, ?_⟩
    · have h1 : (lesser s (d n, BitVec.ofNat 32 n)).1 = min s.1 (d n) := by
        unfold lesser; dsimp only; split_ifs with h
        · exact (min_eq_left h.le).symm
        · exact (min_eq_right (not_lt.1 h)).symm
      rw [h1]
      rcases Nat.lt_succ_iff_lt_or_eq.1 hj with h | rfl
      · exact (min_le_left _ _).trans (hle j h)
      · exact min_le_right _ _
    · rcases hs with ⟨rfl, htop⟩ | ⟨k, hk, rfl, hlt⟩
      · by_cases hd : d n = ⊤
        · left
          refine ⟨?_, fun j hj => (Nat.lt_succ_iff_lt_or_eq.1 hj).elim (htop j) (by rintro rfl; exact hd)⟩
          unfold lesser
          simp only [hd, lt_irrefl, if_false, false_or, true_and]
          refine Prod.ext rfl ?_
          dsimp only
          split_ifs with h
          · rfl
          · have : ¬ 0 < n := fun h0 => h ((slt_ofNat (by norm_num) (by omega)).2 h0)
            obtain rfl : n = 0 := by omega
            rfl
        · right
          refine ⟨n, by omega, ?_, fun j hj => by rw [htop j hj]; exact lt_top_iff_ne_top.2 hd⟩
          unfold lesser
          simp only [not_top_lt, if_false, false_or]
          rw [if_neg fun h => hd h.1.symm]
      · right
        rcases lt_trichotomy (d k) (d n) with h | h | h
        · exact ⟨k, by omega, by simp [lesser, h], hlt⟩
        · refine ⟨k, by omega, ?_, hlt⟩
          have : (BitVec.ofNat 32 k).slt (BitVec.ofNat 32 n) = true := (slt_ofNat (by omega) (by omega)).2 hk
          simp [lesser, h, this]
        · refine ⟨n, by omega, ?_, fun j hj => h.trans_le (hle j hj)⟩
          unfold lesser
          dsimp only
          rw [if_neg h.not_gt, if_neg]
          rintro (h' | ⟨h', -⟩)
          · exact h.not_gt h'
          · exact h.ne' h'

/-- The search over all entries ends at the first one at the least distance. -/
theorem lesser_finRange (d : Fin 1024 → EReal) :
    ((List.finRange 1024).foldl (fun s k => lesser s (d k, BitVec.ofNat 32 k.val)) (⊤, 0#32)).2
      = BitVec.ofNat 32 (first d).val := by
  set d' : ℕ → EReal := fun k => if h : k < 1024 then d ⟨k, h⟩ else ⊤ with hd'
  have hval : ∀ k : Fin 1024, d' k.val = d k := fun k => by simp [hd']
  have e : (List.finRange 1024).foldl (fun s k => lesser s (d k, BitVec.ofNat 32 k.val)) (⊤, 0#32)
      = (List.range 1024).foldl (fun s k => lesser s (d' k, BitVec.ofNat 32 k)) (⊤, 0#32) := by
    rw [← List.map_coe_finRange_eq_range, List.foldl_map]
    simp only [hval]
  rw [e]
  obtain ⟨hle, hs⟩ := lesser_range d' 1024 le_rfl
  rcases hs with ⟨hs, htop⟩ | ⟨k, hk, hs, hlt⟩
  · rw [hs]
    have : first d = 0 := by
      refine first_eq d (fun j => ?_) fun j hj => absurd hj (by simp)
      rw [← hval, ← hval, htop _ (by norm_num), htop _ j.isLt]
    rw [this]; rfl
  · rw [hs] at hle ⊢
    have : first d = ⟨k, hk⟩ := by
      refine first_eq d (fun j => ?_) fun j hj => ?_
      · rw [← hval, ← hval]; exact hle _ j.isLt
      · rw [← hval, ← hval]; exact hlt _ hj
    rw [this]

/-! ## One layer on one row -/

/-- The squared distance of the residual row to entry `k`. -/
def dist (ρ : Fin 256 → EReal) (C : Fin 1024 → Fin 256 → EReal) (k : Fin 1024) : EReal :=
  (∑ c, ρ c * ρ c) - 2 * (∑ c, ρ c * C k c) + ∑ c, C k c * C k c

/-- The row's id at a layer: the first entry at the least distance. -/
def best (ρ : Fin 256 → EReal) (C : Fin 1024 → Fin 256 → EReal) : Fin 1024 := first (dist ρ C)

/-- The residual row handed on: the chosen entry taken away. -/
def next (ρ : Fin 256 → EReal) (C : Fin 1024 → Fin 256 → EReal) (c : Fin 256) : EReal := ρ c - C (best ρ C) c

/-- The entries the four layers choose, each layer at what the one before it left. -/
def ids (ρ : Fin 256 → EReal) (B : Fin 4 → Fin 1024 → Fin 256 → EReal) : Fin 4 → Fin 1024 :=
  ![best ρ (B 0), best (next ρ (B 0)) (B 1), best (next (next ρ (B 0)) (B 1)) (B 2),
    best (next (next (next ρ (B 0)) (B 1)) (B 2)) (B 3)]

/-! ## The kernel's ways of writing these -/

/-- Two is finite. -/
theorem two_ne_top : (2 : EReal) ≠ ⊤ := EReal.coe_ne_top 2

/-- Doubling every term of a sum doubles the sum. -/
theorem two_mul_sum {ι : Type*} (s : Finset ι) (f : ι → EReal) : ∑ i ∈ s, 2 * f i = 2 * ∑ i ∈ s, f i := by
  classical
  induction s using Finset.induction_on with
  | empty => simp
  | insert a s ha ih =>
    rw [sum_insert ha, sum_insert ha, ih, EReal.left_distrib_of_nonneg_of_ne_top (by norm_num) two_ne_top]

/-- The product with the doubled codebook is twice the product with the codebook. -/
theorem sum_doubled (ρ κ : Fin 256 → EReal) : ∑ c, ρ c * (κ c * 2) = 2 * ∑ c, ρ c * κ c := by
  rw [← two_mul_sum]
  exact sum_congr rfl fun c _ => by rw [← mul_assoc, mul_comm]

/-- A finite number with its two vanishing corrections is itself. -/
theorem with_corrections {h : EReal} (h1 : h ≠ ⊤) (h2 : h ≠ ⊥) : h + (h - h) + ((h - h) - (h - h)) = h := by
  rw [EReal.sub_self h1 h2, sub_zero, add_zero, add_zero]

/-- The product with a row that is one at `n` and zero elsewhere picks the entry `n`. -/
theorem sum_oneHot (n : Fin 1024) (h : Fin 1024 → EReal) : ∑ k, (if n = k then (1 : EReal) else 0) * h k = h n := by
  simp

/-- A sum of 256 terms taken as eight sums of 32, each in steps of eight. -/
theorem sum_slabs (g : ℕ → EReal) :
    ∑ c : Fin 256, g c.val = ∑ k ∈ range 8, ∑ j ∈ range 32, g (8 * j + k) := by
  rw [Fin.sum_univ_eq_sum_range g 256, sum_comm]
  have : ∀ m : ℕ, ∑ j ∈ range m, ∑ k ∈ range 8, g (8 * j + k) = ∑ i ∈ range (8 * m), g i := by
    intro m
    induction m with
    | zero => simp
    | succ m ih => rw [sum_range_succ, ih, Nat.mul_succ, sum_range_add]
  exact (this 32).symm

/-- The word that both searches start from is infinity. -/
theorem top_bits : (Idealize.ShloMosaic.Ideal.ofBits .f32 0x7F800000#32 : EReal) = ⊤ := by
  simp [Idealize.ShloMosaic.Ideal.ofBits, Idealize.ShloMosaic.Ideal.ieee]

end Cert.Proof.Spec

end
-- ==== Proof.KerAt.lean ====
/-
  The kernel's layer read on one row of a block: its distances, its numbers and the residual it hands on are the layer
  of Spec.lean.
-/
module

public import proofs.«01_k».proof.Proof.KerFn
public import proofs.«01_k».proof.Proof.Spec
public import Idealize.ShloMosaic.Lib.Pointwise

@[expose] public section

noncomputable section

namespace Cert.Proof.Ker

open Cert.KernelIdeal Cert.KernelIdeal.Gen
open Idealize.ShloMosaic Idealize.ShloMosaic.TcCoe

/-- Row `i` of a block of residuals. -/
def row (r : FVec Ideal S1024x256 .f32) (i : Fin 1024) : Fin 256 → EReal := fun c => r (ix2 i c)

variable (r : FVec Ideal S1024x256 .f32)

/-! ## The squared length of a residual -/

/-- A row of the squares, the row's number any natural number. -/
def square (i : Fin 1024) (n : ℕ) : EReal := if h : n < 256 then r (ix2 i ⟨n, h⟩) * r (ix2 i ⟨n, h⟩) else 0

/-- The squares, at an index. -/
theorem squares_apply (i : Fin 1024) (n : ℕ) (h : n < 256) : squares r (ix2 (⟨n, h⟩ : Fin 256) i) = square r i n := by
  pointwise [squares]
  rw [square, dif_pos h]

/-- The slabs' sum, at a row of the slab. -/
theorem slabSum_apply (k : Fin 8) (i : Fin 1024) :
    slabSum (squares r) (ix2 k i) = ∑ j ∈ Finset.range 32, square r i (8 * j + k.val) := by
  pointwise [slabSum]
  simp only [squares_apply, Finset.sum_range_succ, Finset.sum_range_zero, zero_add]
  norm_num

/-- The squared length of row `i`, though summed by slabs of the transpose. -/
theorem rowNorms_apply (i : Fin 1024) : rowNorms r (ix2 i (0 : Fin 1)) = ∑ c, row r i c * row r i c := by
  have hs : ∑ c, row r i c * row r i c = ∑ c : Fin 256, square r i c.val :=
    Finset.sum_congr rfl fun c _ => by rw [square, dif_pos c.isLt]; rfl
  have fold : ∀ S : ℕ → EReal, (∀ k : Fin 8, slabSum (squares r) (ix2 k i) = S k.val) →
      rowNorms r (ix2 i (0 : Fin 1)) = ∑ k ∈ Finset.range 8, S k := by
    intro S hS
    pointwise [rowNorms, fold8]
    simp only [hS, Finset.sum_range_succ, Finset.sum_range_zero, zero_add]
    show S 0 + S 4 + (S 2 + S 6) + (S 1 + S 5 + (S 3 + S 7)) = _
    abel
  rw [hs, Spec.sum_slabs]
  exact fold _ fun k => slabSum_apply r k i

/-! ## The distances and the number of the least -/

variable (C : Fin 1024 → Fin 256 → EReal)

/-- The distances, when the buffer holds twice the codebook's entries and the row their squared lengths. -/
theorem dist_apply {c2 : FVec Ideal S1x1024x256 .bf16} {cn : FVec Ideal S1x1024 .f32}
    (h2 : ∀ k c, c2 (ix3 (0 : Fin 1) k c) = C k c * 2) (hn : ∀ k, cn (ix2 (0 : Fin 1) k) = ∑ c, C k c * C k c) (i k : Fin 1024) :
    dist r c2 cn (ix2 i k) = Spec.dist (row r i) C k := by
  pointwise [dist]
  rw [rowNorms_apply, hn]
  simp only [h2]
  exact congrArg (fun s => _ - s + _) (Spec.sum_doubled (row r i) (C k))

/-- An entry's number, read as a float. -/
theorem number (k : Fin 1024) : FloatOps.sitofp (F := Ideal) .f32 (BitVec.ofNat 32 k.val) = (((k : ℕ) : ℝ) : EReal) := by
  have e : (BitVec.ofNat 32 k.val).toInt = (k.val : ℤ) := by
    rw [BitVec.toInt_ofNat', Int.bmod_eq_of_le (by omega) (by omega)]
  show (((BitVec.ofNat 32 k.val).toInt : ℝ) : EReal) = _
  rw [e]
  norm_cast

/-- The word of the kernel's filler is 1024. -/
theorem last_bits : (Ideal.ofBits .f32 0x44800000#32 : EReal) = ((1024 : ℝ) : EReal) := by
  simp [Ideal.ofBits, Ideal.ieee]
  rw [← EReal.coe_mul]
  norm_num

/-- The number found on row `i`. -/
theorem nearest_apply (d : FVec Ideal S1024x1024 .f32) (i : Fin 1024) :
    nearest d (ix2 i (0 : Fin 1)) = (((Spec.first fun k => d (ix2 i k) : ℕ) : ℝ) : EReal) := by
  pointwise [nearest, numbers]
  rw [Spec.top_bits, last_bits]
  simp only [number]
  exact Spec.fold_first fun k => d (ix2 i k)

/-- A layer's number on row `i` is the nearest entry's. -/
theorem num_apply {c2 : FVec Ideal S1x1024x256 .bf16} {cn : FVec Ideal S1x1024 .f32}
    (h2 : ∀ k c, c2 (ix3 (0 : Fin 1) k c) = C k c * 2) (hn : ∀ k, cn (ix2 (0 : Fin 1) k) = ∑ c, C k c * C k c) (i : Fin 1024) :
    num r c2 cn (ix2 i (0 : Fin 1)) = (((Spec.best (row r i) C : ℕ) : ℝ) : EReal) := by
  unfold num
  rw [nearest_apply]
  simp only [dist_apply r C h2 hn]
  rfl

/-- A number found is kept by the conversion to integers. -/
theorem id_of_number (k : Fin 1024) : FloatOps.fptosi (F := Ideal) (φ := .f32) 32 ((((k : ℕ) : ℝ) : EReal)) = BitVec.ofNat 32 k.val := by
  have h := k.isLt
  show Ideal.fptosi 32 ((((k : ℕ) : ℝ) : EReal)) = _
  have h1 : ((k.val : ℕ) : ℤ) ≤ ((2 ^ (32 - 1) : ℕ) : ℤ) - 1 := by norm_num; omega
  have h2 : -((2 ^ (32 - 1) : ℕ) : ℤ) ≤ ((k.val : ℕ) : ℤ) := by norm_num
  rw [Ideal.fptosi, Ideal.toIntClamped_coe, if_pos (Nat.cast_nonneg _), Int.floor_natCast, min_eq_right h1, max_eq_right h2,
    BitVec.ofInt_natCast]

/-! ## The chosen entry -/

/-- The table is one at the row's number and zero elsewhere. -/
theorem oneHot_apply (n : FVec Ideal S1024x1 .f32) (i k b : Fin 1024) (h : n (ix2 i (0 : Fin 1)) = (((b : ℕ) : ℝ) : EReal)) :
    (oneHot n (ix2 i k) : EReal) = if b = k then 1 else 0 := by
  pointwise [oneHot, numbers]
  rw [h, number]
  have e : ((((b : ℕ) : ℝ) : EReal) = (((k : ℕ) : ℝ) : EReal)) ↔ b = k := by
    rw [EReal.coe_eq_coe_iff, Nat.cast_inj, Fin.val_inj]
  by_cases hb : b = k
  · simp only [e, hb, decide_true, if_true]
    show (((BitVec.setWidth 32 (BitVec.ofBool true)).toInt : ℝ) : EReal) = 1
    simp
  · simp only [e, hb, decide_false, if_false]
    show (((BitVec.setWidth 32 (BitVec.ofBool false)).toInt : ℝ) : EReal) = 0
    simp

/-- The table times a cell: the cell's row at the row's number. -/
theorem pick_apply (n : FVec Ideal S1024x1 .f32) (h : FVec Ideal S1x1024x256 .bf16) (i b : Fin 1024) (c : Fin 256)
    (hb : n (ix2 i (0 : Fin 1)) = (((b : ℕ) : ℝ) : EReal)) : pick (oneHot n) h (ix2 i c) = h (ix3 (0 : Fin 1) b c) := by
  pointwise [pick]
  simp only [oneHot_apply n i _ b hb]
  exact Spec.sum_oneHot b fun k => h (ix3 (0 : Fin 1) k c)

/-- The residual handed on, when the codebook is finite and the three cells hold it, its first and its second correction. -/
theorem row_step {c2 hi mid lo : FVec Ideal S1x1024x256 .bf16} {cn : FVec Ideal S1x1024 .f32}
    (h2 : ∀ k c, c2 (ix3 (0 : Fin 1) k c) = C k c * 2) (hn : ∀ k, cn (ix2 (0 : Fin 1) k) = ∑ c, C k c * C k c)
    (hh : ∀ k c, hi (ix3 (0 : Fin 1) k c) = C k c) (hm : ∀ k c, mid (ix3 (0 : Fin 1) k c) = C k c - C k c)
    (hl : ∀ k c, lo (ix3 (0 : Fin 1) k c) = (C k c - C k c) - (C k c - C k c)) (hC : ∀ k c, C k c ≠ ⊤ ∧ C k c ≠ ⊥) (i : Fin 1024) :
    row (step r c2 cn hi mid lo) i = Spec.next (row r i) C := by
  funext c
  show step r c2 cn hi mid lo (ix2 i c) = _
  have hb := num_apply r C h2 hn i
  pointwise [step, next]
  rw [pick_apply _ _ i _ c hb, pick_apply _ _ i _ c hb, pick_apply _ _ i _ c hb, hh, hm, hl, Spec.with_corrections (hC _ _).1 (hC _ _).2]
  rfl

end Cert.Proof.Ker

end
-- ==== Proof.KerCells.lean ====
/-
  What the kernel reads of the codebooks, at an index: the four cells of each buffer it fills, and the entries' squared
  lengths the host hands it.
-/
module

public import proofs.«01_k».proof.Proof.KerHost
public import proofs.«01_k».proof.Proof.KerAt

@[expose] public section

noncomputable section

namespace Cert.Proof.Ker

open Cert.KernelIdeal Cert.KernelIdeal.Gen
open Idealize.ShloMosaic Idealize.ShloMosaic.TcCoe

variable (z : FVec Ideal S4x1024x256 .f32) (k : Fin 1024) (c : Fin 256)

/-- Cell `l` of a buffer, at an index. -/
theorem cell0_apply (y : FVec Ideal S4x1024x256 .bf16) : cell0 y (ix3 (0 : Fin 1) k c) = y (ix3 (0 : Fin 4) k c) := by
  pointwise [cell0]
@[inherit_doc cell0_apply] theorem cell1_apply (y : FVec Ideal S4x1024x256 .bf16) : cell1 y (ix3 (0 : Fin 1) k c) = y (ix3 (1 : Fin 4) k c) := by
  pointwise [cell1]
@[inherit_doc cell0_apply] theorem cell2_apply (y : FVec Ideal S4x1024x256 .bf16) : cell2 y (ix3 (0 : Fin 1) k c) = y (ix3 (2 : Fin 4) k c) := by
  pointwise [cell2]
@[inherit_doc cell0_apply] theorem cell3_apply (y : FVec Ideal S4x1024x256 .bf16) : cell3 y (ix3 (0 : Fin 1) k c) = y (ix3 (3 : Fin 4) k c) := by
  pointwise [cell3]

/-- Row `l` of the squared lengths, at an index. -/
theorem row0_apply (y : FVec Ideal S4x1024 .f32) : row0 y (ix2 (0 : Fin 1) k) = y (ix2 (0 : Fin 4) k) := by
  pointwise [row0]
@[inherit_doc row0_apply] theorem row1_apply (y : FVec Ideal S4x1024 .f32) : row1 y (ix2 (0 : Fin 1) k) = y (ix2 (1 : Fin 4) k) := by
  pointwise [row1]
@[inherit_doc row0_apply] theorem row2_apply (y : FVec Ideal S4x1024 .f32) : row2 y (ix2 (0 : Fin 1) k) = y (ix2 (2 : Fin 4) k) := by
  pointwise [row2]
@[inherit_doc row0_apply] theorem row3_apply (y : FVec Ideal S4x1024 .f32) : row3 y (ix2 (0 : Fin 1) k) = y (ix2 (3 : Fin 4) k) := by
  pointwise [row3]

/-! ## The buffers and the squared lengths -/

/-- The entries. -/
theorem hi_apply (l : Fin 4) : (k0_pay3 (F := Ideal) z (ix3 l k c) : EReal) = z (ix3 l k c) := by
  pointwise [k0_pay3, k0_pay2]

/-- The word of the factor is 2. -/
theorem two_bits : (Ideal.ofBits .bf16 0x4000#16 : EReal) = 2 := by
  simp [Ideal.ofBits, Ideal.ieee]
  rw [← EReal.coe_mul]
  norm_num
  rfl

/-- Twice the entries. -/
theorem c2_apply (l : Fin 4) : (k0_pay4 (F := Ideal) z (ix3 l k c) : EReal) = z (ix3 l k c) * 2 := by
  pointwise [k0_pay4, k0_pay2]
  rw [two_bits]

/-- The first correction. -/
theorem mid_apply (l : Fin 4) : (k0_pay7 (F := Ideal) z (ix3 l k c) : EReal) = z (ix3 l k c) - z (ix3 l k c) := by
  pointwise [k0_pay7, k0_pay6, k0_pay5, k0_pay2]

/-- The second correction. -/
theorem lo_apply (l : Fin 4) :
    (k0_pay8 (F := Ideal) z (ix3 l k c) : EReal) = (z (ix3 l k c) - z (ix3 l k c)) - (z (ix3 l k c) - z (ix3 l k c)) := by
  pointwise [k0_pay8, k0_pay6, k0_pay5, k0_pay2]

/-- The squared lengths of the entries. -/
theorem norms_apply (l : Fin 4) : norms z (ix2 l k) = ∑ c, z (ix3 l k c) * z (ix3 l k c) := by
  fin_cases l <;> pointwise [norms, norms1]

/-! ## The four layers -/

/-- The entries of the four codebooks. -/
def tabs : Fin 4 → Fin 1024 → Fin 256 → EReal := fun l k c => z (ix3 l k c)

/-- What a cell of each buffer and a row of the squared lengths hold of one codebook. -/
structure Cells (C : Fin 1024 → Fin 256 → EReal) (c2 hi mid lo : FVec Ideal S1x1024x256 .bf16) (cn : FVec Ideal S1x1024 .f32) : Prop where
  c2 : ∀ k c, c2 (ix3 (0 : Fin 1) k c) = C k c * 2
  hi : ∀ k c, hi (ix3 (0 : Fin 1) k c) = C k c
  mid : ∀ k c, mid (ix3 (0 : Fin 1) k c) = C k c - C k c
  lo : ∀ k c, lo (ix3 (0 : Fin 1) k c) = (C k c - C k c) - (C k c - C k c)
  cn : ∀ k, cn (ix2 (0 : Fin 1) k) = ∑ c, C k c * C k c

/-- A layer that reads these cells finds the nearest entry. -/
theorem Cells.num {C : Fin 1024 → Fin 256 → EReal} {c2 hi mid lo : FVec Ideal S1x1024x256 .bf16} {cn : FVec Ideal S1x1024 .f32}
    (h : Cells C c2 hi mid lo cn) (r : FVec Ideal S1024x256 .f32) (i : Fin 1024) :
    num r c2 cn (ix2 i (0 : Fin 1)) = (((Spec.best (row r i) C : ℕ) : ℝ) : EReal) := num_apply r C h.c2 h.cn i

/-- A layer that reads these cells of a finite codebook hands on the residual of Spec.lean. -/
theorem Cells.step {C : Fin 1024 → Fin 256 → EReal} {c2 hi mid lo : FVec Ideal S1x1024x256 .bf16} {cn : FVec Ideal S1x1024 .f32}
    (h : Cells C c2 hi mid lo cn) (hC : ∀ k c, C k c ≠ ⊤ ∧ C k c ≠ ⊥) (r : FVec Ideal S1024x256 .f32) (i : Fin 1024) :
    row (step r c2 cn hi mid lo) i = Spec.next (row r i) C := row_step r C h.c2 h.cn h.hi h.mid h.lo hC i

/-- Layer `l` reads the cells of codebook `l`. -/
theorem cells0 : Cells (tabs z 0) (cell0 (k0_pay4 z)) (cell0 (k0_pay3 z)) (cell0 (k0_pay7 z)) (cell0 (k0_pay8 z)) (row0 (norms z)) :=
  ⟨fun k c => (cell0_apply k c _).trans (c2_apply z k c 0), fun k c => (cell0_apply k c _).trans (hi_apply z k c 0),
    fun k c => (cell0_apply k c _).trans (mid_apply z k c 0), fun k c => (cell0_apply k c _).trans (lo_apply z k c 0),
    fun k => (row0_apply k _).trans (norms_apply z k 0)⟩
@[inherit_doc cells0] theorem cells1 : Cells (tabs z 1) (cell1 (k0_pay4 z)) (cell1 (k0_pay3 z)) (cell1 (k0_pay7 z)) (cell1 (k0_pay8 z)) (row1 (norms z)) :=
  ⟨fun k c => (cell1_apply k c _).trans (c2_apply z k c 1), fun k c => (cell1_apply k c _).trans (hi_apply z k c 1),
    fun k c => (cell1_apply k c _).trans (mid_apply z k c 1), fun k c => (cell1_apply k c _).trans (lo_apply z k c 1),
    fun k => (row1_apply k _).trans (norms_apply z k 1)⟩
@[inherit_doc cells0] theorem cells2 : Cells (tabs z 2) (cell2 (k0_pay4 z)) (cell2 (k0_pay3 z)) (cell2 (k0_pay7 z)) (cell2 (k0_pay8 z)) (row2 (norms z)) :=
  ⟨fun k c => (cell2_apply k c _).trans (c2_apply z k c 2), fun k c => (cell2_apply k c _).trans (hi_apply z k c 2),
    fun k c => (cell2_apply k c _).trans (mid_apply z k c 2), fun k c => (cell2_apply k c _).trans (lo_apply z k c 2),
    fun k => (row2_apply k _).trans (norms_apply z k 2)⟩
@[inherit_doc cells0] theorem cells3 : Cells (tabs z 3) (cell3 (k0_pay4 z)) (cell3 (k0_pay3 z)) (cell3 (k0_pay7 z)) (cell3 (k0_pay8 z)) (row3 (norms z)) :=
  ⟨fun k c => (cell3_apply k c _).trans (c2_apply z k c 3), fun k c => (cell3_apply k c _).trans (hi_apply z k c 3),
    fun k c => (cell3_apply k c _).trans (mid_apply z k c 3), fun k c => (cell3_apply k c _).trans (lo_apply z k c 3),
    fun k => (row3_apply k _).trans (norms_apply z k 3)⟩

/-- The kernel's ids are those of Spec.lean, when the first three codebooks are finite. -/
theorem blockIds_apply (r : FVec Ideal S1024x256 .f32) (hz : ∀ l : Fin 4, l ≠ 3 → ∀ k c, tabs z l k c ≠ ⊤ ∧ tabs z l k c ≠ ⊥)
    (i : Fin 1024) (l : Fin 4) :
    blockIds r (k0_pay4 z) (k0_pay3 z) (k0_pay7 z) (k0_pay8 z) (norms z) (ix2 i l) = BitVec.ofNat 32 (Spec.ids (row r i) (tabs z) l).val := by
  have h0 := hz 0 (by decide)
  have h1 := hz 1 (by decide)
  have h2 := hz 2 (by decide)
  fin_cases l <;> pointwise [blockIds, stack]
  · rw [(cells0 z).num]
    exact id_of_number _
  · rw [(cells1 z).num, (cells0 z).step h0]
    exact id_of_number _
  · rw [(cells2 z).num, (cells1 z).step h1, (cells0 z).step h0]
    exact id_of_number _
  · rw [(cells3 z).num, (cells2 z).step h2, (cells1 z).step h1, (cells0 z).step h0]
    exact id_of_number _

/-- The encoder, at an index. -/
theorem enc_apply (x : FVec Ideal S1024x768 .f32) (W : FVec Ideal S768x256 .f32) (b : FVec Ideal S256 .f32) (i : Fin 1024) (c : Fin 256) :
    enc x W (shapeCast S1x256 b shapeCasts_S256_S1x256) (ix2 i c) = ∑ k, x (ix2 i k) * W (ix2 k c) + b (ix1 c) := by
  pointwise [enc]

end Cert.Proof.Ker

end
-- ==== Proof.RefRun.lean ====
/-
  The reference program's run: what its two results hold at the end, as terms over its arguments. One layer of the
  quantizer is written once (`dist`, `nearest`, `rows`, `next`) and used at the four codebooks.
-/
module

public import proofs.«01_k».proof.Defs
public import proofs.«01_k».proof.Proof.Gen.ReferenceIdeal
public import Idealize.ShloMosaic.Adequacy
public import Idealize.ShloMosaic.Init
public import Idealize.ShloMosaic.Lib.Claim
public import Idealize.ShloMosaic.Lib.StableHlo.RunRead
public import Idealize.ShloMosaic.Lib.Quiescent

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The encoder: the first residual of every row. -/
def enc (x : FVec F S4096x768 .f32) (W : FVec F S768x256 .f32) (b : FVec F S256 .f32) : FVec F S4096x256 .f32 :=
  addf (Host.dotGeneral dot_S4096x768_S768x256_S4096x256_1_0_0_1_n_n none x W)
    (broadcastInDim S4096x256 ![0, 1] bcast_S1x256_S4096x256_0_1 (broadcastInDim S1x256 ![1] bcast_S256_S1x256_1 b))

/-- The four codebooks, cut out of the one array. -/
def book0 (cb : FVec F S4x1024x256 .f32) : FVec F S1024x256 .f32 :=
  shapeCast S1024x256 (extractStridedSlice S1x1024x256 ![0, 0, 0] cb slices_S4x1024x256_S1x1024x256_0_0_0) shapeCasts_S1x1024x256_S1024x256
@[inherit_doc book0] def book1 (cb : FVec F S4x1024x256 .f32) : FVec F S1024x256 .f32 :=
  shapeCast S1024x256 (extractStridedSlice S1x1024x256 ![1, 0, 0] cb slices_S4x1024x256_S1x1024x256_1_0_0) shapeCasts_S1x1024x256_S1024x256
@[inherit_doc book0] def book2 (cb : FVec F S4x1024x256 .f32) : FVec F S1024x256 .f32 :=
  shapeCast S1024x256 (extractStridedSlice S1x1024x256 ![2, 0, 0] cb slices_S4x1024x256_S1x1024x256_2_0_0) shapeCasts_S1x1024x256_S1024x256
@[inherit_doc book0] def book3 (cb : FVec F S4x1024x256 .f32) : FVec F S1024x256 .f32 :=
  shapeCast S1024x256 (extractStridedSlice S1x1024x256 ![3, 0, 0] cb slices_S4x1024x256_S1x1024x256_3_0_0) shapeCasts_S1x1024x256_S1024x256

/-- The squared distances of every row's residual to every entry of a codebook. -/
def dist (r : FVec F S4096x256 .f32) (cb : FVec F S1024x256 .f32) : FVec F S4096x1024 .f32 :=
  addf
    (subf
      (broadcastInDim S4096x1024 ![0, 1] bcast_S4096x1_S4096x1024_0_1 (broadcastInDim S4096x1 ![0] bcast_S4096_S4096x1_0
        (Host.reduceAdd (mulf r r) (constant S_ .f32 0x00000000#32) reducesTo_S4096x256_S4096_d1 h_S_)))
      (mulf (broadcastInDim S4096x1024 ![] bcast_S_S4096x1024 (constant S_ .f32 0x40000000#32))
        (Host.dotGeneral dot_S4096x256_S256x1024_S4096x1024_1_0_0_1_n_n none r
          (transpose S256x1024 [1, 0] cb transposes_S1024x256_S256x1024_1_0))))
    (broadcastInDim S4096x1024 ![0, 1] bcast_S1x1024_S4096x1024_0_1 (broadcastInDim S1x1024 ![1] bcast_S1024_S1x1024_1
      (Host.reduceAdd (mulf cb cb) (constant S_ .f32 0x00000000#32) reducesTo_S1024x256_S1024_d1 h_S_)))

/-- The number of the least distance of every row. -/
def nearest (d : FVec F S4096x1024 .f32) : IVec S4096 32 := fun j =>
  (Host.argReduce reducer_argmin_f32_i32 d (iotaInDim S4096x1024 32 1) (constant S_ .f32 0x7F800000#32)
    (constantI S_ 32 0#32) reducesTo_S4096x1024_S4096_d1 h_S_ j).2

/-- `nearest` written out. -/
theorem nearest_def (d : FVec F S4096x1024 .f32) : nearest d = fun j =>
    (Host.argReduce reducer_argmin_f32_i32 d (iotaInDim S4096x1024 32 1) (constant S_ .f32 0x7F800000#32)
      (constantI S_ 32 0#32) reducesTo_S4096x1024_S4096_d1 h_S_ j).2 := rfl

/-- The row numbers the codebook is read at: a negative one counts from the end. -/
def wrapped (i : IVec S4096 32) : IVec S4096x1 32 :=
  broadcastInDim S4096x1 ![0] bcast_S4096_S4096x1_0
    (select (cmpi .slt i (broadcastInDim S4096 ![] bcast_S_S4096 (constantI S_ 32 0#32)))
      (addi i (broadcastInDim S4096 ![] bcast_S_S4096 (constantI S_ 32 1024#32))) i)

/-- The codebook's rows at these numbers, a row out of range replaced by a filler. -/
def rows (cb : FVec F S1024x256 .f32) (i : IVec S4096 32) : FVec F S4096x256 .f32 :=
  select
    (broadcastInDim S4096x256 ![0] bcast_S4096_S4096x256_0
      (Host.reduce IntOp.andi
        (andi
          (cmpi .sge (wrapped i) (broadcastInDim S4096x1 ![] bcast_S_S4096x1 (constantI S_ 32 0#32)))
          (cmpi .sle (wrapped i) (broadcastInDim S4096x1 ![0, 1] bcast_S1x1_S4096x1_0_1
            (broadcastInDim S1x1 ![1] bcast_S1_S1x1_1 (constantI S1 32 1023#32)))))
        (constantI S_ 1 1#1) reducesTo_S4096x1_S4096_d1 h_S_))
    (Host.gather gather_S1024x256_S4096x1_S4096x256_1_0_n_n_0_1_1256 cb (wrapped i))
    (broadcastInDim S4096x256 ![] bcast_S_S4096x256 (constant S_ .f32 0x7FC00000#32))

/-- A layer's ids. -/
def ids (r : FVec F S4096x256 .f32) (cb : FVec F S1024x256 .f32) : IVec S4096 32 := nearest (dist r cb)

/-- The residual a layer hands on. -/
def next (r : FVec F S4096x256 .f32) (cb : FVec F S1024x256 .f32) : FVec F S4096x256 .f32 :=
  subf r (rows cb (ids r cb))

variable (r : FVec F S4096x256 .f32) (cb : FVec F S4x1024x256 .f32)

/-- The residuals the later layers start from. -/
def res1 : FVec F S4096x256 .f32 := next r (book0 cb)
@[inherit_doc res1] def res2 : FVec F S4096x256 .f32 := next (res1 r cb) (book1 cb)
@[inherit_doc res1] def res3 : FVec F S4096x256 .f32 := next (res2 r cb) (book2 cb)

/-- Four columns of ids, side by side. -/
def stack (i0 i1 i2 i3 : IVec S4096 32) : IVec S4096x4 32 :=
  concatenate S4096x4 1
    [⟨S4096x1, broadcastInDim S4096x1 ![0] bcast_S4096_S4096x1_0 i0⟩,
     ⟨S4096x1, broadcastInDim S4096x1 ![0] bcast_S4096_S4096x1_0 i1⟩,
     ⟨S4096x1, broadcastInDim S4096x1 ![0] bcast_S4096_S4096x1_0 i2⟩,
     ⟨S4096x1, broadcastInDim S4096x1 ![0] bcast_S4096_S4096x1_0 i3⟩]
    concatenates_S4096x1_S4096x1_S4096x1_S4096x1_S4096x4_d1

/-- All four layers' ids. -/
def allIds : IVec S4096x4 32 :=
  stack (ids r (book0 cb)) (ids (res1 r cb) (book1 cb)) (ids (res2 r cb) (book2 cb)) (ids (res3 r cb) (book3 cb))

/-- The decoder on the ids. -/
def decode (i : IVec S4096x4 32) (W : FVec F S4x256 .f32) (b : FVec F S256 .f32) : FVec F S4096x256 .f32 :=
  addf (Host.dotGeneral dot_S4096x4_S4x256_S4096x256_1_0_0_1_n_n none (sitofp .f32 i) W)
    (broadcastInDim S4096x256 ![0, 1] bcast_S1x256_S4096x256_0_1 (broadcastInDim S1x256 ![1] bcast_S256_S1x256_1 b))

/-! ## The program's operations, in order, cut at the layers -/

/-- The encoder: the first residual. -/
abbrev opsEnc : List (HloOp τ sig (Elt F)) :=
  [ binary main_arg0 main_arg1 main_v0 ((fun l r => Host.dotGeneral dot_S4096x768_S768x256_S4096x256_1_0_0_1_n_n none l r) : (⟨S4096x768, .f32⟩ : BufTy).Contents (Elt F) → (⟨S768x256, .f32⟩ : BufTy).Contents (Elt F) → (⟨S4096x256, .f32⟩ : BufTy).Contents (Elt F)),
    unary main_arg2 main_v1 (broadcastInDim S1x256 ![1] bcast_S256_S1x256_1 : (⟨S256, .f32⟩ : BufTy).Contents (Elt F) → (⟨S1x256, .f32⟩ : BufTy).Contents (Elt F)),
    unary main_v1 main_v2 (broadcastInDim S4096x256 ![0, 1] bcast_S1x256_S4096x256_0_1 : (⟨S1x256, .f32⟩ : BufTy).Contents (Elt F) → (⟨S4096x256, .f32⟩ : BufTy).Contents (Elt F)),
    binary main_v0 main_v2 main_v3 (addf : (⟨S4096x256, .f32⟩ : BufTy).Contents (Elt F) → (⟨S4096x256, .f32⟩ : BufTy).Contents (Elt F) → (⟨S4096x256, .f32⟩ : BufTy).Contents (Elt F)) ]

/-- Layer 0: the distances and the nearest entry. -/
abbrev opsA0 : List (HloOp τ sig (Elt F)) :=
  [ unary main_arg3 main_v4 ((extractStridedSlice S1x1024x256 ![0, 0, 0] · slices_S4x1024x256_S1x1024x256_0_0_0) : (⟨S4x1024x256, .f32⟩ : BufTy).Contents (Elt F) → (⟨S1x1024x256, .f32⟩ : BufTy).Contents (Elt F)),
    reshape main_v4 main_v5 (rfl : (.f32 : EltTy) = .f32) shapeCasts_S1x1024x256_S1024x256,
    binary main_v3 main_v3 main_v6 (mulf : (⟨S4096x256, .f32⟩ : BufTy).Contents (Elt F) → (⟨S4096x256, .f32⟩ : BufTy).Contents (Elt F) → (⟨S4096x256, .f32⟩ : BufTy).Contents (Elt F)),
    nullary main_cst (constant S_ .f32 0x00000000#32),
    binary main_v6 main_cst main_v7 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    unary main_v7 main_v8 (broadcastInDim S4096x1 ![0] bcast_S4096_S4096x1_0 : (⟨S4096, .f32⟩ : BufTy).Contents (Elt F) → (⟨S4096x1, .f32⟩ : BufTy).Contents (Elt F)),
    unary main_v5 main_v9 ((transpose S256x1024 [1, 0] · transposes_S1024x256_S256x1024_1_0) : (⟨S1024x256, .f32⟩ : BufTy).Contents (Elt F) → (⟨S256x1024, .f32⟩ : BufTy).Contents (Elt F)),
    binary main_v3 main_v9 main_v10 ((fun l r => Host.dotGeneral dot_S4096x256_S256x1024_S4096x1024_1_0_0_1_n_n none l r) : (⟨S4096x256, .f32⟩ : BufTy).Contents (Elt F) → (⟨S256x1024, .f32⟩ : BufTy).Contents (Elt F) → (⟨S4096x1024, .f32⟩ : BufTy).Contents (Elt F)),
    nullary main_cst_0 (constant S_ .f32 0x40000000#32),
    unary main_cst_0 main_v11 (broadcastInDim S4096x1024 ![] bcast_S_S4096x1024 : (⟨S_, .f32⟩ : BufTy).Contents (Elt F) → (⟨S4096x1024, .f32⟩ : BufTy).Contents (Elt F)),
    binary main_v11 main_v10 main_v12 (mulf : (⟨S4096x1024, .f32⟩ : BufTy).Contents (Elt F) → (⟨S4096x1024, .f32⟩ : BufTy).Contents (Elt F) → (⟨S4096x1024, .f32⟩ : BufTy).Contents (Elt F)),
    unary main_v8 main_v13 (broadcastInDim S4096x1024 ![0, 1] bcast_S4096x1_S4096x1024_0_1 : (⟨S4096x1, .f32⟩ : BufTy).Contents (Elt F) → (⟨S4096x1024, .f32⟩ : BufTy).Contents (Elt F)),
    binary main_v13 main_v12 main_v14 (subf : (⟨S4096x1024, .f32⟩ : BufTy).Contents (Elt F) → (⟨S4096x1024, .f32⟩ : BufTy).Contents (Elt F) → (⟨S4096x1024, .f32⟩ : BufTy).Contents (Elt F)),
    binary main_v5 main_v5 main_v15 (mulf : (⟨S1024x256, .f32⟩ : BufTy).Contents (Elt F) → (⟨S1024x256, .f32⟩ : BufTy).Contents (Elt F) → (⟨S1024x256, .f32⟩ : BufTy).Contents (Elt F)),
    nullary main_cst_1 (constant S_ .f32 0x00000000#32),
    binary main_v15 main_cst_1 main_v16 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v16 main_v17 (broadcastInDim S1x1024 ![1] bcast_S1024_S1x1024_1 : (⟨S1024, .f32⟩ : BufTy).Contents (Elt F) → (⟨S1x1024, .f32⟩ : BufTy).Contents (Elt F)),
    unary main_v17 main_v18 (broadcastInDim S4096x1024 ![0, 1] bcast_S1x1024_S4096x1024_0_1 : (⟨S1x1024, .f32⟩ : BufTy).Contents (Elt F) → (⟨S4096x1024, .f32⟩ : BufTy).Contents (Elt F)),
    binary main_v14 main_v18 main_v19 (addf : (⟨S4096x1024, .f32⟩ : BufTy).Contents (Elt F) → (⟨S4096x1024, .f32⟩ : BufTy).Contents (Elt F) → (⟨S4096x1024, .f32⟩ : BufTy).Contents (Elt F)),
    TRef.nullary main_call0.v0 (iotaInDim S4096x1024 32 1),
    TRef.nullary main_call0.cst (constant S_ .f32 0x7F800000#32),
    TRef.nullary main_call0.c (constantI S_ 32 0#32),
    TRef.quaternary (.of main_v19) main_call0.v0 main_call0.cst main_call0.c main_call0.v1_0 (fun x y u v j => (Host.argReduce reducer_argmin_f32_i32 x y u v reducesTo_S4096x1024_S4096_d1 h_S_ j).1),
    TRef.quaternary (.of main_v19) main_call0.v0 main_call0.cst main_call0.c main_call0.v1_1 (fun x y u v j => (Host.argReduce reducer_argmin_f32_i32 x y u v reducesTo_S4096x1024_S4096_d1 h_S_ j).2)]

/-- Layer 0: the nearest entry's row and the next residual. -/
abbrev opsB0 : List (HloOp τ sig (Elt F)) :=
  [ TRef.nullary main_call1.c (constantI S_ 32 0#32),
    TRef.unary main_call1.c main_call1.v0 (broadcastInDim S4096 ![] bcast_S_S4096),
    TRef.binary (.of main_v20) main_call1.v0 main_call1.v1 (cmpi .slt),
    TRef.nullary main_call1.c_0 (constantI S_ 32 1024#32),
    TRef.unary main_call1.c_0 main_call1.v2 (broadcastInDim S4096 ![] bcast_S_S4096),
    TRef.binary (.of main_v20) main_call1.v2 main_call1.v3 addi,
    TRef.ternary (main_call1.v1) (main_call1.v3) (.of main_v20) main_call1.call0.v0 select,
    TRef.unary main_call1.call0.v0 main_call1.v5 (broadcastInDim S4096x1 ![0] bcast_S4096_S4096x1_0),
    TRef.nullary main_call1.c_1 (constantI S1 32 1023#32),
    TRef.nullary main_call1.c_2 (constantI S_ 32 0#32),
    TRef.unary main_call1.c_2 main_call1.v6 (broadcastInDim S4096x1 ![] bcast_S_S4096x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S4096x1 ![0, 1] bcast_S1x1_S4096x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4096x1_S4096_d1 h_S_),
    TRef.binary (.of main_v5) main_call1.v5 main_call1.v13 (fun x i => Host.gather gather_S1024x256_S4096x1_S4096x256_1_0_n_n_0_1_1256 x i),
    TRef.unary main_call1.v12 main_call1.v14 (broadcastInDim S4096x256 ![0] bcast_S4096_S4096x256_0),
    TRef.nullary main_call1.cst (constant S_ .f32 0x7FC00000#32),
    TRef.unary main_call1.cst main_call1.v15 (broadcastInDim S4096x256 ![] bcast_S_S4096x256),
    TRef.ternary main_call1.v14 main_call1.v13 main_call1.v15 main_call1.v16 select,
    binary main_v3 main_v21 main_v22 (subf : (⟨S4096x256, .f32⟩ : BufTy).Contents (Elt F) → (⟨S4096x256, .f32⟩ : BufTy).Contents (Elt F) → (⟨S4096x256, .f32⟩ : BufTy).Contents (Elt F)) ]

/-- Layer 0. -/
abbrev opsL0 : List (HloOp τ sig (Elt F)) := opsA0 ++ opsB0

/-- Layer 1: the distances and the nearest entry. -/
abbrev opsA1 : List (HloOp τ sig (Elt F)) :=
  [ unary main_arg3 main_v23 ((extractStridedSlice S1x1024x256 ![1, 0, 0] · slices_S4x1024x256_S1x1024x256_1_0_0) : (⟨S4x1024x256, .f32⟩ : BufTy).Contents (Elt F) → (⟨S1x1024x256, .f32⟩ : BufTy).Contents (Elt F)),
    reshape main_v23 main_v24 (rfl : (.f32 : EltTy) = .f32) shapeCasts_S1x1024x256_S1024x256,
    binary main_v22 main_v22 main_v25 (mulf : (⟨S4096x256, .f32⟩ : BufTy).Contents (Elt F) → (⟨S4096x256, .f32⟩ : BufTy).Contents (Elt F) → (⟨S4096x256, .f32⟩ : BufTy).Contents (Elt F)),
    nullary main_cst_2 (constant S_ .f32 0x00000000#32),
    binary main_v25 main_cst_2 main_v26 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    unary main_v26 main_v27 (broadcastInDim S4096x1 ![0] bcast_S4096_S4096x1_0 : (⟨S4096, .f32⟩ : BufTy).Contents (Elt F) → (⟨S4096x1, .f32⟩ : BufTy).Contents (Elt F)),
    unary main_v24 main_v28 ((transpose S256x1024 [1, 0] · transposes_S1024x256_S256x1024_1_0) : (⟨S1024x256, .f32⟩ : BufTy).Contents (Elt F) → (⟨S256x1024, .f32⟩ : BufTy).Contents (Elt F)),
    binary main_v22 main_v28 main_v29 ((fun l r => Host.dotGeneral dot_S4096x256_S256x1024_S4096x1024_1_0_0_1_n_n none l r) : (⟨S4096x256, .f32⟩ : BufTy).Contents (Elt F) → (⟨S256x1024, .f32⟩ : BufTy).Contents (Elt F) → (⟨S4096x1024, .f32⟩ : BufTy).Contents (Elt F)),
    nullary main_cst_3 (constant S_ .f32 0x40000000#32),
    unary main_cst_3 main_v30 (broadcastInDim S4096x1024 ![] bcast_S_S4096x1024 : (⟨S_, .f32⟩ : BufTy).Contents (Elt F) → (⟨S4096x1024, .f32⟩ : BufTy).Contents (Elt F)),
    binary main_v30 main_v29 main_v31 (mulf : (⟨S4096x1024, .f32⟩ : BufTy).Contents (Elt F) → (⟨S4096x1024, .f32⟩ : BufTy).Contents (Elt F) → (⟨S4096x1024, .f32⟩ : BufTy).Contents (Elt F)),
    unary main_v27 main_v32 (broadcastInDim S4096x1024 ![0, 1] bcast_S4096x1_S4096x1024_0_1 : (⟨S4096x1, .f32⟩ : BufTy).Contents (Elt F) → (⟨S4096x1024, .f32⟩ : BufTy).Contents (Elt F)),
    binary main_v32 main_v31 main_v33 (subf : (⟨S4096x1024, .f32⟩ : BufTy).Contents (Elt F) → (⟨S4096x1024, .f32⟩ : BufTy).Contents (Elt F) → (⟨S4096x1024, .f32⟩ : BufTy).Contents (Elt F)),
    binary main_v24 main_v24 main_v34 (mulf : (⟨S1024x256, .f32⟩ : BufTy).Contents (Elt F) → (⟨S1024x256, .f32⟩ : BufTy).Contents (Elt F) → (⟨S1024x256, .f32⟩ : BufTy).Contents (Elt F)),
    nullary main_cst_4 (constant S_ .f32 0x00000000#32),
    binary main_v34 main_cst_4 main_v35 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v35 main_v36 (broadcastInDim S1x1024 ![1] bcast_S1024_S1x1024_1 : (⟨S1024, .f32⟩ : BufTy).Contents (Elt F) → (⟨S1x1024, .f32⟩ : BufTy).Contents (Elt F)),
    unary main_v36 main_v37 (broadcastInDim S4096x1024 ![0, 1] bcast_S1x1024_S4096x1024_0_1 : (⟨S1x1024, .f32⟩ : BufTy).Contents (Elt F) → (⟨S4096x1024, .f32⟩ : BufTy).Contents (Elt F)),
    binary main_v33 main_v37 main_v38 (addf : (⟨S4096x1024, .f32⟩ : BufTy).Contents (Elt F) → (⟨S4096x1024, .f32⟩ : BufTy).Contents (Elt F) → (⟨S4096x1024, .f32⟩ : BufTy).Contents (Elt F)),
    TRef.nullary main_call2.v0 (iotaInDim S4096x1024 32 1),
    TRef.nullary main_call2.cst (constant S_ .f32 0x7F800000#32),
    TRef.nullary main_call2.c (constantI S_ 32 0#32),
    TRef.quaternary (.of main_v38) main_call2.v0 main_call2.cst main_call2.c main_call2.v1_0 (fun x y u v j => (Host.argReduce reducer_argmin_f32_i32 x y u v reducesTo_S4096x1024_S4096_d1 h_S_ j).1),
    TRef.quaternary (.of main_v38) main_call2.v0 main_call2.cst main_call2.c main_call2.v1_1 (fun x y u v j => (Host.argReduce reducer_argmin_f32_i32 x y u v reducesTo_S4096x1024_S4096_d1 h_S_ j).2)]

/-- Layer 1: the nearest entry's row and the next residual. -/
abbrev opsB1 : List (HloOp τ sig (Elt F)) :=
  [ TRef.nullary main_call3.c (constantI S_ 32 0#32),
    TRef.unary main_call3.c main_call3.v0 (broadcastInDim S4096 ![] bcast_S_S4096),
    TRef.binary (.of main_v39) main_call3.v0 main_call3.v1 (cmpi .slt),
    TRef.nullary main_call3.c_0 (constantI S_ 32 1024#32),
    TRef.unary main_call3.c_0 main_call3.v2 (broadcastInDim S4096 ![] bcast_S_S4096),
    TRef.binary (.of main_v39) main_call3.v2 main_call3.v3 addi,
    TRef.ternary (main_call3.v1) (main_call3.v3) (.of main_v39) main_call3.call0.v0 select,
    TRef.unary main_call3.call0.v0 main_call3.v5 (broadcastInDim S4096x1 ![0] bcast_S4096_S4096x1_0),
    TRef.nullary main_call3.c_1 (constantI S1 32 1023#32),
    TRef.nullary main_call3.c_2 (constantI S_ 32 0#32),
    TRef.unary main_call3.c_2 main_call3.v6 (broadcastInDim S4096x1 ![] bcast_S_S4096x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S4096x1 ![0, 1] bcast_S1x1_S4096x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S4096x1_S4096_d1 h_S_),
    TRef.binary (.of main_v24) main_call3.v5 main_call3.v13 (fun x i => Host.gather gather_S1024x256_S4096x1_S4096x256_1_0_n_n_0_1_1256 x i),
    TRef.unary main_call3.v12 main_call3.v14 (broadcastInDim S4096x256 ![0] bcast_S4096_S4096x256_0),
    TRef.nullary main_call3.cst (constant S_ .f32 0x7FC00000#32),
    TRef.unary main_call3.cst main_call3.v15 (broadcastInDim S4096x256 ![] bcast_S_S4096x256),
    TRef.ternary main_call3.v14 main_call3.v13 main_call3.v15 main_call3.v16 select,
    binary main_v22 main_v40 main_v41 (subf : (⟨S4096x256, .f32⟩ : BufTy).Contents (Elt F) → (⟨S4096x256, .f32⟩ : BufTy).Contents (Elt F) → (⟨S4096x256, .f32⟩ : BufTy).Contents (Elt F)) ]

/-- Layer 1. -/
abbrev opsL1 : List (HloOp τ sig (Elt F)) := opsA1 ++ opsB1

/-- Layer 2: the distances and the nearest entry. -/
abbrev opsA2 : List (HloOp τ sig (Elt F)) :=
  [ unary main_arg3 main_v42 ((extractStridedSlice S1x1024x256 ![2, 0, 0] · slices_S4x1024x256_S1x1024x256_2_0_0) : (⟨S4x1024x256, .f32⟩ : BufTy).Contents (Elt F) → (⟨S1x1024x256, .f32⟩ : BufTy).Contents (Elt F)),
    reshape main_v42 main_v43 (rfl : (.f32 : EltTy) = .f32) shapeCasts_S1x1024x256_S1024x256,
    binary main_v41 main_v41 main_v44 (mulf : (⟨S4096x256, .f32⟩ : BufTy).Contents (Elt F) → (⟨S4096x256, .f32⟩ : BufTy).Contents (Elt F) → (⟨S4096x256, .f32⟩ : BufTy).Contents (Elt F)),
    nullary main_cst_5 (constant S_ .f32 0x00000000#32),
    binary main_v44 main_cst_5 main_v45 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    unary main_v45 main_v46 (broadcastInDim S4096x1 ![0] bcast_S4096_S4096x1_0 : (⟨S4096, .f32⟩ : BufTy).Contents (Elt F) → (⟨S4096x1, .f32⟩ : BufTy).Contents (Elt F)),
    unary main_v43 main_v47 ((transpose S256x1024 [1, 0] · transposes_S1024x256_S256x1024_1_0) : (⟨S1024x256, .f32⟩ : BufTy).Contents (Elt F) → (⟨S256x1024, .f32⟩ : BufTy).Contents (Elt F)),
    binary main_v41 main_v47 main_v48 ((fun l r => Host.dotGeneral dot_S4096x256_S256x1024_S4096x1024_1_0_0_1_n_n none l r) : (⟨S4096x256, .f32⟩ : BufTy).Contents (Elt F) → (⟨S256x1024, .f32⟩ : BufTy).Contents (Elt F) → (⟨S4096x1024, .f32⟩ : BufTy).Contents (Elt F)),
    nullary main_cst_6 (constant S_ .f32 0x40000000#32),
    unary main_cst_6 main_v49 (broadcastInDim S4096x1024 ![] bcast_S_S4096x1024 : (⟨S_, .f32⟩ : BufTy).Contents (Elt F) → (⟨S4096x1024, .f32⟩ : BufTy).Contents (Elt F)),
    binary main_v49 main_v48 main_v50 (mulf : (⟨S4096x1024, .f32⟩ : BufTy).Contents (Elt F) → (⟨S4096x1024, .f32⟩ : BufTy).Contents (Elt F) → (⟨S4096x1024, .f32⟩ : BufTy).Contents (Elt F)),
    unary main_v46 main_v51 (broadcastInDim S4096x1024 ![0, 1] bcast_S4096x1_S4096x1024_0_1 : (⟨S4096x1, .f32⟩ : BufTy).Contents (Elt F) → (⟨S4096x1024, .f32⟩ : BufTy).Contents (Elt F)),
    binary main_v51 main_v50 main_v52 (subf : (⟨S4096x1024, .f32⟩ : BufTy).Contents (Elt F) → (⟨S4096x1024, .f32⟩ : BufTy).Contents (Elt F) → (⟨S4096x1024, .f32⟩ : BufTy).Contents (Elt F)),
    binary main_v43 main_v43 main_v53 (mulf : (⟨S1024x256, .f32⟩ : BufTy).Contents (Elt F) → (⟨S1024x256, .f32⟩ : BufTy).Contents (Elt F) → (⟨S1024x256, .f32⟩ : BufTy).Contents (Elt F)),
    nullary main_cst_7 (constant S_ .f32 0x00000000#32),
    binary main_v53 main_cst_7 main_v54 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v54 main_v55 (broadcastInDim S1x1024 ![1] bcast_S1024_S1x1024_1 : (⟨S1024, .f32⟩ : BufTy).Contents (Elt F) → (⟨S1x1024, .f32⟩ : BufTy).Contents (Elt F)),
    unary main_v55 main_v56 (broadcastInDim S4096x1024 ![0, 1] bcast_S1x1024_S4096x1024_0_1 : (⟨S1x1024, .f32⟩ : BufTy).Contents (Elt F) → (⟨S4096x1024, .f32⟩ : BufTy).Contents (Elt F)),
    binary main_v52 main_v56 main_v57 (addf : (⟨S4096x1024, .f32⟩ : BufTy).Contents (Elt F) → (⟨S4096x1024, .f32⟩ : BufTy).Contents (Elt F) → (⟨S4096x1024, .f32⟩ : BufTy).Contents (Elt F)),
    TRef.nullary main_call4.v0 (iotaInDim S4096x1024 32 1),
    TRef.nullary main_call4.cst (constant S_ .f32 0x7F800000#32),
    TRef.nullary main_call4.c (constantI S_ 32 0#32),
    TRef.quaternary (.of main_v57) main_call4.v0 main_call4.cst main_call4.c main_call4.v1_0 (fun x y u v j => (Host.argReduce reducer_argmin_f32_i32 x y u v reducesTo_S4096x1024_S4096_d1 h_S_ j).1),
    TRef.quaternary (.of main_v57) main_call4.v0 main_call4.cst main_call4.c main_call4.v1_1 (fun x y u v j => (Host.argReduce reducer_argmin_f32_i32 x y u v reducesTo_S4096x1024_S4096_d1 h_S_ j).2)]

/-- Layer 2: the nearest entry's row and the next residual. -/
abbrev opsB2 : List (HloOp τ sig (Elt F)) :=
  [ TRef.nullary main_call5.c (constantI S_ 32 0#32),
    TRef.unary main_call5.c main_call5.v0 (broadcastInDim S4096 ![] bcast_S_S4096),
    TRef.binary (.of main_v58) main_call5.v0 main_call5.v1 (cmpi .slt),
    TRef.nullary main_call5.c_0 (constantI S_ 32 1024#32),
    TRef.unary main_call5.c_0 main_call5.v2 (broadcastInDim S4096 ![] bcast_S_S4096),
    TRef.binary (.of main_v58) main_call5.v2 main_call5.v3 addi,
    TRef.ternary (main_call5.v1) (main_call5.v3) (.of main_v58) main_call5.call0.v0 select,
    TRef.unary main_call5.call0.v0 main_call5.v5 (broadcastInDim S4096x1 ![0] bcast_S4096_S4096x1_0),
    TRef.nullary main_call5.c_1 (constantI S1 32 1023#32),
    TRef.nullary main_call5.c_2 (constantI S_ 32 0#32),
    TRef.unary main_call5.c_2 main_call5.v6 (broadcastInDim S4096x1 ![] bcast_S_S4096x1),
    TRef.binary main_call5.v5 main_call5.v6 main_call5.v7 (cmpi .sge),
    TRef.unary main_call5.c_1 main_call5.v8 (broadcastInDim S1x1 ![1] bcast_S1_S1x1_1),
    TRef.unary main_call5.v8 main_call5.v9 (broadcastInDim S4096x1 ![0, 1] bcast_S1x1_S4096x1_0_1),
    TRef.binary main_call5.v5 main_call5.v9 main_call5.v10 (cmpi .sle),
    TRef.binary main_call5.v7 main_call5.v10 main_call5.v11 andi,
    TRef.nullary main_call5.c_3 (constantI S_ 1 1#1),
    TRef.binary main_call5.v11 main_call5.c_3 main_call5.v12 (fun x v => Host.reduce IntOp.andi x v reducesTo_S4096x1_S4096_d1 h_S_),
    TRef.binary (.of main_v43) main_call5.v5 main_call5.v13 (fun x i => Host.gather gather_S1024x256_S4096x1_S4096x256_1_0_n_n_0_1_1256 x i),
    TRef.unary main_call5.v12 main_call5.v14 (broadcastInDim S4096x256 ![0] bcast_S4096_S4096x256_0),
    TRef.nullary main_call5.cst (constant S_ .f32 0x7FC00000#32),
    TRef.unary main_call5.cst main_call5.v15 (broadcastInDim S4096x256 ![] bcast_S_S4096x256),
    TRef.ternary main_call5.v14 main_call5.v13 main_call5.v15 main_call5.v16 select,
    binary main_v41 main_v59 main_v60 (subf : (⟨S4096x256, .f32⟩ : BufTy).Contents (Elt F) → (⟨S4096x256, .f32⟩ : BufTy).Contents (Elt F) → (⟨S4096x256, .f32⟩ : BufTy).Contents (Elt F)) ]

/-- Layer 2. -/
abbrev opsL2 : List (HloOp τ sig (Elt F)) := opsA2 ++ opsB2

/-- Layer 3: the distances and the nearest entry. -/
abbrev opsA3 : List (HloOp τ sig (Elt F)) :=
  [ unary main_arg3 main_v61 ((extractStridedSlice S1x1024x256 ![3, 0, 0] · slices_S4x1024x256_S1x1024x256_3_0_0) : (⟨S4x1024x256, .f32⟩ : BufTy).Contents (Elt F) → (⟨S1x1024x256, .f32⟩ : BufTy).Contents (Elt F)),
    reshape main_v61 main_v62 (rfl : (.f32 : EltTy) = .f32) shapeCasts_S1x1024x256_S1024x256,
    binary main_v60 main_v60 main_v63 (mulf : (⟨S4096x256, .f32⟩ : BufTy).Contents (Elt F) → (⟨S4096x256, .f32⟩ : BufTy).Contents (Elt F) → (⟨S4096x256, .f32⟩ : BufTy).Contents (Elt F)),
    nullary main_cst_8 (constant S_ .f32 0x00000000#32),
    binary main_v63 main_cst_8 main_v64 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    unary main_v64 main_v65 (broadcastInDim S4096x1 ![0] bcast_S4096_S4096x1_0 : (⟨S4096, .f32⟩ : BufTy).Contents (Elt F) → (⟨S4096x1, .f32⟩ : BufTy).Contents (Elt F)),
    unary main_v62 main_v66 ((transpose S256x1024 [1, 0] · transposes_S1024x256_S256x1024_1_0) : (⟨S1024x256, .f32⟩ : BufTy).Contents (Elt F) → (⟨S256x1024, .f32⟩ : BufTy).Contents (Elt F)),
    binary main_v60 main_v66 main_v67 ((fun l r => Host.dotGeneral dot_S4096x256_S256x1024_S4096x1024_1_0_0_1_n_n none l r) : (⟨S4096x256, .f32⟩ : BufTy).Contents (Elt F) → (⟨S256x1024, .f32⟩ : BufTy).Contents (Elt F) → (⟨S4096x1024, .f32⟩ : BufTy).Contents (Elt F)),
    nullary main_cst_9 (constant S_ .f32 0x40000000#32),
    unary main_cst_9 main_v68 (broadcastInDim S4096x1024 ![] bcast_S_S4096x1024 : (⟨S_, .f32⟩ : BufTy).Contents (Elt F) → (⟨S4096x1024, .f32⟩ : BufTy).Contents (Elt F)),
    binary main_v68 main_v67 main_v69 (mulf : (⟨S4096x1024, .f32⟩ : BufTy).Contents (Elt F) → (⟨S4096x1024, .f32⟩ : BufTy).Contents (Elt F) → (⟨S4096x1024, .f32⟩ : BufTy).Contents (Elt F)),
    unary main_v65 main_v70 (broadcastInDim S4096x1024 ![0, 1] bcast_S4096x1_S4096x1024_0_1 : (⟨S4096x1, .f32⟩ : BufTy).Contents (Elt F) → (⟨S4096x1024, .f32⟩ : BufTy).Contents (Elt F)),
    binary main_v70 main_v69 main_v71 (subf : (⟨S4096x1024, .f32⟩ : BufTy).Contents (Elt F) → (⟨S4096x1024, .f32⟩ : BufTy).Contents (Elt F) → (⟨S4096x1024, .f32⟩ : BufTy).Contents (Elt F)),
    binary main_v62 main_v62 main_v72 (mulf : (⟨S1024x256, .f32⟩ : BufTy).Contents (Elt F) → (⟨S1024x256, .f32⟩ : BufTy).Contents (Elt F) → (⟨S1024x256, .f32⟩ : BufTy).Contents (Elt F)),
    nullary main_cst_10 (constant S_ .f32 0x00000000#32),
    binary main_v72 main_cst_10 main_v73 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v73 main_v74 (broadcastInDim S1x1024 ![1] bcast_S1024_S1x1024_1 : (⟨S1024, .f32⟩ : BufTy).Contents (Elt F) → (⟨S1x1024, .f32⟩ : BufTy).Contents (Elt F)),
    unary main_v74 main_v75 (broadcastInDim S4096x1024 ![0, 1] bcast_S1x1024_S4096x1024_0_1 : (⟨S1x1024, .f32⟩ : BufTy).Contents (Elt F) → (⟨S4096x1024, .f32⟩ : BufTy).Contents (Elt F)),
    binary main_v71 main_v75 main_v76 (addf : (⟨S4096x1024, .f32⟩ : BufTy).Contents (Elt F) → (⟨S4096x1024, .f32⟩ : BufTy).Contents (Elt F) → (⟨S4096x1024, .f32⟩ : BufTy).Contents (Elt F)),
    TRef.nullary main_call6.v0 (iotaInDim S4096x1024 32 1),
    TRef.nullary main_call6.cst (constant S_ .f32 0x7F800000#32),
    TRef.nullary main_call6.c (constantI S_ 32 0#32),
    TRef.quaternary (.of main_v76) main_call6.v0 main_call6.cst main_call6.c main_call6.v1_0 (fun x y u v j => (Host.argReduce reducer_argmin_f32_i32 x y u v reducesTo_S4096x1024_S4096_d1 h_S_ j).1),
    TRef.quaternary (.of main_v76) main_call6.v0 main_call6.cst main_call6.c main_call6.v1_1 (fun x y u v j => (Host.argReduce reducer_argmin_f32_i32 x y u v reducesTo_S4096x1024_S4096_d1 h_S_ j).2)]

/-- Layer 3: the nearest entry's row and the next residual. -/
abbrev opsB3 : List (HloOp τ sig (Elt F)) :=
  [ TRef.nullary main_call7.c (constantI S_ 32 0#32),
    TRef.unary main_call7.c main_call7.v0 (broadcastInDim S4096 ![] bcast_S_S4096),
    TRef.binary (.of main_v77) main_call7.v0 main_call7.v1 (cmpi .slt),
    TRef.nullary main_call7.c_0 (constantI S_ 32 1024#32),
    TRef.unary main_call7.c_0 main_call7.v2 (broadcastInDim S4096 ![] bcast_S_S4096),
    TRef.binary (.of main_v77) main_call7.v2 main_call7.v3 addi,
    TRef.ternary (main_call7.v1) (main_call7.v3) (.of main_v77) main_call7.call0.v0 select,
    TRef.unary main_call7.call0.v0 main_call7.v5 (broadcastInDim S4096x1 ![0] bcast_S4096_S4096x1_0),
    TRef.nullary main_call7.c_1 (constantI S1 32 1023#32),
    TRef.nullary main_call7.c_2 (constantI S_ 32 0#32),
    TRef.unary main_call7.c_2 main_call7.v6 (broadcastInDim S4096x1 ![] bcast_S_S4096x1),
    TRef.binary main_call7.v5 main_call7.v6 main_call7.v7 (cmpi .sge),
    TRef.unary main_call7.c_1 main_call7.v8 (broadcastInDim S1x1 ![1] bcast_S1_S1x1_1),
    TRef.unary main_call7.v8 main_call7.v9 (broadcastInDim S4096x1 ![0, 1] bcast_S1x1_S4096x1_0_1),
    TRef.binary main_call7.v5 main_call7.v9 main_call7.v10 (cmpi .sle),
    TRef.binary main_call7.v7 main_call7.v10 main_call7.v11 andi,
    TRef.nullary main_call7.c_3 (constantI S_ 1 1#1),
    TRef.binary main_call7.v11 main_call7.c_3 main_call7.v12 (fun x v => Host.reduce IntOp.andi x v reducesTo_S4096x1_S4096_d1 h_S_),
    TRef.binary (.of main_v62) main_call7.v5 main_call7.v13 (fun x i => Host.gather gather_S1024x256_S4096x1_S4096x256_1_0_n_n_0_1_1256 x i),
    TRef.unary main_call7.v12 main_call7.v14 (broadcastInDim S4096x256 ![0] bcast_S4096_S4096x256_0),
    TRef.nullary main_call7.cst (constant S_ .f32 0x7FC00000#32),
    TRef.unary main_call7.cst main_call7.v15 (broadcastInDim S4096x256 ![] bcast_S_S4096x256),
    TRef.ternary main_call7.v14 main_call7.v13 main_call7.v15 main_call7.v16 select,
    binary main_v60 main_v78 main_v79 (subf : (⟨S4096x256, .f32⟩ : BufTy).Contents (Elt F) → (⟨S4096x256, .f32⟩ : BufTy).Contents (Elt F) → (⟨S4096x256, .f32⟩ : BufTy).Contents (Elt F)) ]

/-- Layer 3. -/
abbrev opsL3 : List (HloOp τ sig (Elt F)) := opsA3 ++ opsB3

/-- The ids side by side and the decoder. -/
abbrev opsDec : List (HloOp τ sig (Elt F)) :=
  [ unary main_v20 main_v80 (broadcastInDim S4096x1 ![0] bcast_S4096_S4096x1_0 : (⟨S4096, .i32⟩ : BufTy).Contents (Elt F) → (⟨S4096x1, .i32⟩ : BufTy).Contents (Elt F)),
    unary main_v39 main_v81 (broadcastInDim S4096x1 ![0] bcast_S4096_S4096x1_0 : (⟨S4096, .i32⟩ : BufTy).Contents (Elt F) → (⟨S4096x1, .i32⟩ : BufTy).Contents (Elt F)),
    unary main_v58 main_v82 (broadcastInDim S4096x1 ![0] bcast_S4096_S4096x1_0 : (⟨S4096, .i32⟩ : BufTy).Contents (Elt F) → (⟨S4096x1, .i32⟩ : BufTy).Contents (Elt F)),
    unary main_v77 main_v83 (broadcastInDim S4096x1 ![0] bcast_S4096_S4096x1_0 : (⟨S4096, .i32⟩ : BufTy).Contents (Elt F) → (⟨S4096x1, .i32⟩ : BufTy).Contents (Elt F)),
    nary ![main_v80, main_v81, main_v82, main_v83] main_v84 (fun u => (concatenate S4096x4 1 [⟨S4096x1, (u 0 : (⟨S4096x1, .i32⟩ : BufTy).Contents (Elt F))⟩, ⟨S4096x1, (u 1 : (⟨S4096x1, .i32⟩ : BufTy).Contents (Elt F))⟩, ⟨S4096x1, (u 2 : (⟨S4096x1, .i32⟩ : BufTy).Contents (Elt F))⟩, ⟨S4096x1, (u 3 : (⟨S4096x1, .i32⟩ : BufTy).Contents (Elt F))⟩] concatenates_S4096x1_S4096x1_S4096x1_S4096x1_S4096x4_d1 : (⟨S4096x4, .i32⟩ : BufTy).Contents (Elt F))),
    unary main_v84 main_v85 (sitofp .f32 : (⟨S4096x4, .i32⟩ : BufTy).Contents (Elt F) → (⟨S4096x4, .f32⟩ : BufTy).Contents (Elt F)),
    binary main_v85 main_arg4 main_v86 ((fun l r => Host.dotGeneral dot_S4096x4_S4x256_S4096x256_1_0_0_1_n_n none l r) : (⟨S4096x4, .f32⟩ : BufTy).Contents (Elt F) → (⟨S4x256, .f32⟩ : BufTy).Contents (Elt F) → (⟨S4096x256, .f32⟩ : BufTy).Contents (Elt F)),
    unary main_arg5 main_v87 (broadcastInDim S1x256 ![1] bcast_S256_S1x256_1 : (⟨S256, .f32⟩ : BufTy).Contents (Elt F) → (⟨S1x256, .f32⟩ : BufTy).Contents (Elt F)),
    unary main_v87 main_v88 (broadcastInDim S4096x256 ![0, 1] bcast_S1x256_S4096x256_0_1 : (⟨S1x256, .f32⟩ : BufTy).Contents (Elt F) → (⟨S4096x256, .f32⟩ : BufTy).Contents (Elt F)),
    binary main_v86 main_v88 main_v89 (addf : (⟨S4096x256, .f32⟩ : BufTy).Contents (Elt F) → (⟨S4096x256, .f32⟩ : BufTy).Contents (Elt F) → (⟨S4096x256, .f32⟩ : BufTy).Contents (Elt F)) ]

set_option maxRecDepth 65536 in
/-- The program is these operations, one after the other. -/
theorem main_eq (d : Dev nD) : main (F := F) d = seq (opsEnc ++ (opsL0 ++ (opsL1 ++ (opsL2 ++ (opsL3 ++ opsDec))))) := rfl

/-- What this stretch writes. -/
abbrev wEnc : List (Ref sig .tc) :=
  [main_v0, main_v1, main_v2, main_v3]

/-- It changes nothing else. -/
theorem keepEnc {r : Ref sig .tc} (hr : r ∉ wEnc) (V : Valuation τ sig (Elt F)) :
    after (opsEnc (F := F)) V (r : DevRef τ sig) = V (r : DevRef τ sig) := after_unwritten wEnc rfl hr V

/-- One stretch after another. -/
theorem after_two (l l' : List (HloOp τ sig (Elt F))) (V : Valuation τ sig (Elt F)) : after (l ++ l') V = after l' (after l V) := by
  induction l generalizing V with
  | nil => rfl
  | cons op l ih => exact ih _

/-- What this stretch writes. -/
abbrev wA0 : List (Ref sig .tc) :=
  [main_v4, main_v5, main_v6, main_cst, main_v7, main_v8, main_v9, main_v10, main_cst_0, main_v11, main_v12, main_v13, main_v14, main_v15, main_cst_1, main_v16, main_v17, main_v18, main_v19, main_call0.v0.ref, main_call0.cst.ref, main_call0.c.ref, main_call0.v1_0.ref, main_call0.v1_1.ref]

/-- It changes nothing else. -/
theorem keepA0 {r : Ref sig .tc} (hr : r ∉ wA0) (V : Valuation τ sig (Elt F)) :
    after (opsA0 (F := F)) V (r : DevRef τ sig) = V (r : DevRef τ sig) := after_unwritten wA0 rfl hr V

/-- What this stretch writes. -/
abbrev wB0 : List (Ref sig .tc) :=
  [main_call1.c.ref, main_call1.v0.ref, main_call1.v1.ref, main_call1.c_0.ref, main_call1.v2.ref, main_call1.v3.ref, main_call1.call0.v0.ref, main_call1.v5.ref, main_call1.c_1.ref, main_call1.c_2.ref, main_call1.v6.ref, main_call1.v7.ref, main_call1.v8.ref, main_call1.v9.ref, main_call1.v10.ref, main_call1.v11.ref, main_call1.c_3.ref, main_call1.v12.ref, main_call1.v13.ref, main_call1.v14.ref, main_call1.cst.ref, main_call1.v15.ref, main_call1.v16.ref, main_v22]

/-- It changes nothing else. -/
theorem keepB0 {r : Ref sig .tc} (hr : r ∉ wB0) (V : Valuation τ sig (Elt F)) :
    after (opsB0 (F := F)) V (r : DevRef τ sig) = V (r : DevRef τ sig) := after_unwritten wB0 rfl hr V

@[inherit_doc wA0] abbrev wL0 : List (Ref sig .tc) := wA0 ++ wB0

/-- It changes nothing else. -/
theorem keepL0 {r : Ref sig .tc} (hr : r ∉ wL0) (V : Valuation τ sig (Elt F)) :
    after (opsL0 (F := F)) V (r : DevRef τ sig) = V (r : DevRef τ sig) := by
  simp only [List.mem_append, not_or] at hr
  rw [after_two, keepB0 hr.2, keepA0 hr.1]

/-- What this stretch writes. -/
abbrev wA1 : List (Ref sig .tc) :=
  [main_v23, main_v24, main_v25, main_cst_2, main_v26, main_v27, main_v28, main_v29, main_cst_3, main_v30, main_v31, main_v32, main_v33, main_v34, main_cst_4, main_v35, main_v36, main_v37, main_v38, main_call2.v0.ref, main_call2.cst.ref, main_call2.c.ref, main_call2.v1_0.ref, main_call2.v1_1.ref]

/-- It changes nothing else. -/
theorem keepA1 {r : Ref sig .tc} (hr : r ∉ wA1) (V : Valuation τ sig (Elt F)) :
    after (opsA1 (F := F)) V (r : DevRef τ sig) = V (r : DevRef τ sig) := after_unwritten wA1 rfl hr V

/-- What this stretch writes. -/
abbrev wB1 : List (Ref sig .tc) :=
  [main_call3.c.ref, main_call3.v0.ref, main_call3.v1.ref, main_call3.c_0.ref, main_call3.v2.ref, main_call3.v3.ref, main_call3.call0.v0.ref, main_call3.v5.ref, main_call3.c_1.ref, main_call3.c_2.ref, main_call3.v6.ref, main_call3.v7.ref, main_call3.v8.ref, main_call3.v9.ref, main_call3.v10.ref, main_call3.v11.ref, main_call3.c_3.ref, main_call3.v12.ref, main_call3.v13.ref, main_call3.v14.ref, main_call3.cst.ref, main_call3.v15.ref, main_call3.v16.ref, main_v41]

/-- It changes nothing else. -/
theorem keepB1 {r : Ref sig .tc} (hr : r ∉ wB1) (V : Valuation τ sig (Elt F)) :
    after (opsB1 (F := F)) V (r : DevRef τ sig) = V (r : DevRef τ sig) := after_unwritten wB1 rfl hr V

@[inherit_doc wA1] abbrev wL1 : List (Ref sig .tc) := wA1 ++ wB1

/-- It changes nothing else. -/
theorem keepL1 {r : Ref sig .tc} (hr : r ∉ wL1) (V : Valuation τ sig (Elt F)) :
    after (opsL1 (F := F)) V (r : DevRef τ sig) = V (r : DevRef τ sig) := by
  simp only [List.mem_append, not_or] at hr
  rw [after_two, keepB1 hr.2, keepA1 hr.1]

/-- What this stretch writes. -/
abbrev wA2 : List (Ref sig .tc) :=
  [main_v42, main_v43, main_v44, main_cst_5, main_v45, main_v46, main_v47, main_v48, main_cst_6, main_v49, main_v50, main_v51, main_v52, main_v53, main_cst_7, main_v54, main_v55, main_v56, main_v57, main_call4.v0.ref, main_call4.cst.ref, main_call4.c.ref, main_call4.v1_0.ref, main_call4.v1_1.ref]

/-- It changes nothing else. -/
theorem keepA2 {r : Ref sig .tc} (hr : r ∉ wA2) (V : Valuation τ sig (Elt F)) :
    after (opsA2 (F := F)) V (r : DevRef τ sig) = V (r : DevRef τ sig) := after_unwritten wA2 rfl hr V

/-- What this stretch writes. -/
abbrev wB2 : List (Ref sig .tc) :=
  [main_call5.c.ref, main_call5.v0.ref, main_call5.v1.ref, main_call5.c_0.ref, main_call5.v2.ref, main_call5.v3.ref, main_call5.call0.v0.ref, main_call5.v5.ref, main_call5.c_1.ref, main_call5.c_2.ref, main_call5.v6.ref, main_call5.v7.ref, main_call5.v8.ref, main_call5.v9.ref, main_call5.v10.ref, main_call5.v11.ref, main_call5.c_3.ref, main_call5.v12.ref, main_call5.v13.ref, main_call5.v14.ref, main_call5.cst.ref, main_call5.v15.ref, main_call5.v16.ref, main_v60]

/-- It changes nothing else. -/
theorem keepB2 {r : Ref sig .tc} (hr : r ∉ wB2) (V : Valuation τ sig (Elt F)) :
    after (opsB2 (F := F)) V (r : DevRef τ sig) = V (r : DevRef τ sig) := after_unwritten wB2 rfl hr V

@[inherit_doc wA2] abbrev wL2 : List (Ref sig .tc) := wA2 ++ wB2

/-- It changes nothing else. -/
theorem keepL2 {r : Ref sig .tc} (hr : r ∉ wL2) (V : Valuation τ sig (Elt F)) :
    after (opsL2 (F := F)) V (r : DevRef τ sig) = V (r : DevRef τ sig) := by
  simp only [List.mem_append, not_or] at hr
  rw [after_two, keepB2 hr.2, keepA2 hr.1]

/-- What this stretch writes. -/
abbrev wA3 : List (Ref sig .tc) :=
  [main_v61, main_v62, main_v63, main_cst_8, main_v64, main_v65, main_v66, main_v67, main_cst_9, main_v68, main_v69, main_v70, main_v71, main_v72, main_cst_10, main_v73, main_v74, main_v75, main_v76, main_call6.v0.ref, main_call6.cst.ref, main_call6.c.ref, main_call6.v1_0.ref, main_call6.v1_1.ref]

/-- It changes nothing else. -/
theorem keepA3 {r : Ref sig .tc} (hr : r ∉ wA3) (V : Valuation τ sig (Elt F)) :
    after (opsA3 (F := F)) V (r : DevRef τ sig) = V (r : DevRef τ sig) := after_unwritten wA3 rfl hr V

/-- What this stretch writes. -/
abbrev wB3 : List (Ref sig .tc) :=
  [main_call7.c.ref, main_call7.v0.ref, main_call7.v1.ref, main_call7.c_0.ref, main_call7.v2.ref, main_call7.v3.ref, main_call7.call0.v0.ref, main_call7.v5.ref, main_call7.c_1.ref, main_call7.c_2.ref, main_call7.v6.ref, main_call7.v7.ref, main_call7.v8.ref, main_call7.v9.ref, main_call7.v10.ref, main_call7.v11.ref, main_call7.c_3.ref, main_call7.v12.ref, main_call7.v13.ref, main_call7.v14.ref, main_call7.cst.ref, main_call7.v15.ref, main_call7.v16.ref, main_v79]

/-- It changes nothing else. -/
theorem keepB3 {r : Ref sig .tc} (hr : r ∉ wB3) (V : Valuation τ sig (Elt F)) :
    after (opsB3 (F := F)) V (r : DevRef τ sig) = V (r : DevRef τ sig) := after_unwritten wB3 rfl hr V

@[inherit_doc wA3] abbrev wL3 : List (Ref sig .tc) := wA3 ++ wB3

/-- It changes nothing else. -/
theorem keepL3 {r : Ref sig .tc} (hr : r ∉ wL3) (V : Valuation τ sig (Elt F)) :
    after (opsL3 (F := F)) V (r : DevRef τ sig) = V (r : DevRef τ sig) := by
  simp only [List.mem_append, not_or] at hr
  rw [after_two, keepB3 hr.2, keepA3 hr.1]

/-- What this stretch writes. -/
abbrev wDec : List (Ref sig .tc) :=
  [main_v80, main_v81, main_v82, main_v83, main_v84, main_v85, main_v86, main_v87, main_v88, main_v89]

/-- It changes nothing else. -/
theorem keepDec {r : Ref sig .tc} (hr : r ∉ wDec) (V : Valuation τ sig (Elt F)) :
    after (opsDec (F := F)) V (r : DevRef τ sig) = V (r : DevRef τ sig) := after_unwritten wDec rfl hr V

variable (V : Valuation τ sig (Elt F))

/-! ## What each stretch leaves in the buffers read later -/

/-- The first residual. -/
theorem enc_v3 : after opsEnc V (main_v3 : DevRef τ sig) = enc (V (main_arg0 : DevRef τ sig)) (V (main_arg1 : DevRef τ sig)) (V (main_arg2 : DevRef τ sig)) := by
  after_results_simp
  rfl

/-- Layer 0's ids, where they are computed. -/
theorem a0_ids : after opsA0 V (main_v20 : DevRef τ sig) = ids (V (main_v3 : DevRef τ sig)) (book0 (V (main_arg3 : DevRef τ sig))) := by
  after_results_simp
  rfl

/-- Layer 0's codebook. -/
theorem a0_book : after opsA0 V (main_v5 : DevRef τ sig) = book0 (V (main_arg3 : DevRef τ sig)) := by
  after_results_simp
  rfl

/-- The residual layer 0 hands on, from the ids. -/
theorem b0_next : after opsB0 V (main_v22 : DevRef τ sig) = subf (V (main_v3 : DevRef τ sig)) (rows (V (main_v5 : DevRef τ sig)) (V (main_v20 : DevRef τ sig))) := by
  after_results_simp
  rfl

/-- Layer 0's ids. -/
theorem l0_ids : after opsL0 V (main_v20 : DevRef τ sig) = ids (V (main_v3 : DevRef τ sig)) (book0 (V (main_arg3 : DevRef τ sig))) := by
  rw [after_two, keepB0 (r := main_v20) (by decide), a0_ids]

/-- The residual layer 0 hands on. -/
theorem l0_next : after opsL0 V (main_v22 : DevRef τ sig) = next (V (main_v3 : DevRef τ sig)) (book0 (V (main_arg3 : DevRef τ sig))) := by
  rw [after_two, b0_next, keepA0 (r := main_v3) (by decide), a0_book, a0_ids]
  rfl

/-- Layer 1's ids, where they are computed. -/
theorem a1_ids : after opsA1 V (main_v39 : DevRef τ sig) = ids (V (main_v22 : DevRef τ sig)) (book1 (V (main_arg3 : DevRef τ sig))) := by
  after_results_simp
  rfl

/-- Layer 1's codebook. -/
theorem a1_book : after opsA1 V (main_v24 : DevRef τ sig) = book1 (V (main_arg3 : DevRef τ sig)) := by
  after_results_simp
  rfl

/-- The residual layer 1 hands on, from the ids. -/
theorem b1_next : after opsB1 V (main_v41 : DevRef τ sig) = subf (V (main_v22 : DevRef τ sig)) (rows (V (main_v24 : DevRef τ sig)) (V (main_v39 : DevRef τ sig))) := by
  after_results_simp
  rfl

/-- Layer 1's ids. -/
theorem l1_ids : after opsL1 V (main_v39 : DevRef τ sig) = ids (V (main_v22 : DevRef τ sig)) (book1 (V (main_arg3 : DevRef τ sig))) := by
  rw [after_two, keepB1 (r := main_v39) (by decide), a1_ids]

/-- The residual layer 1 hands on. -/
theorem l1_next : after opsL1 V (main_v41 : DevRef τ sig) = next (V (main_v22 : DevRef τ sig)) (book1 (V (main_arg3 : DevRef τ sig))) := by
  rw [after_two, b1_next, keepA1 (r := main_v22) (by decide), a1_book, a1_ids]
  rfl

/-- Layer 2's ids, where they are computed. -/
theorem a2_ids : after opsA2 V (main_v58 : DevRef τ sig) = ids (V (main_v41 : DevRef τ sig)) (book2 (V (main_arg3 : DevRef τ sig))) := by
  after_results_simp
  rfl

/-- Layer 2's codebook. -/
theorem a2_book : after opsA2 V (main_v43 : DevRef τ sig) = book2 (V (main_arg3 : DevRef τ sig)) := by
  after_results_simp
  rfl

/-- The residual layer 2 hands on, from the ids. -/
theorem b2_next : after opsB2 V (main_v60 : DevRef τ sig) = subf (V (main_v41 : DevRef τ sig)) (rows (V (main_v43 : DevRef τ sig)) (V (main_v58 : DevRef τ sig))) := by
  after_results_simp
  rfl

/-- Layer 2's ids. -/
theorem l2_ids : after opsL2 V (main_v58 : DevRef τ sig) = ids (V (main_v41 : DevRef τ sig)) (book2 (V (main_arg3 : DevRef τ sig))) := by
  rw [after_two, keepB2 (r := main_v58) (by decide), a2_ids]

/-- The residual layer 2 hands on. -/
theorem l2_next : after opsL2 V (main_v60 : DevRef τ sig) = next (V (main_v41 : DevRef τ sig)) (book2 (V (main_arg3 : DevRef τ sig))) := by
  rw [after_two, b2_next, keepA2 (r := main_v41) (by decide), a2_book, a2_ids]
  rfl

/-- Layer 3's ids, where they are computed. -/
theorem a3_ids : after opsA3 V (main_v77 : DevRef τ sig) = ids (V (main_v60 : DevRef τ sig)) (book3 (V (main_arg3 : DevRef τ sig))) := by
  after_results_simp
  rfl

/-- Layer 3's ids. -/
theorem l3_ids : after opsL3 V (main_v77 : DevRef τ sig) = ids (V (main_v60 : DevRef τ sig)) (book3 (V (main_arg3 : DevRef τ sig))) := by
  rw [after_two, keepB3 (r := main_v77) (by decide), a3_ids]

/-- The ids side by side. -/
theorem dec_ids : after opsDec V (main_v84 : DevRef τ sig)
    = stack (V (main_v20 : DevRef τ sig)) (V (main_v39 : DevRef τ sig)) (V (main_v58 : DevRef τ sig)) (V (main_v77 : DevRef τ sig)) := by
  after_results
  rfl

/-- The decoded rows. -/
theorem dec_out : after opsDec V (main_v89 : DevRef τ sig)
    = decode (stack (V (main_v20 : DevRef τ sig)) (V (main_v39 : DevRef τ sig)) (V (main_v58 : DevRef τ sig)) (V (main_v77 : DevRef τ sig)))
        (V (main_arg4 : DevRef τ sig)) (V (main_arg5 : DevRef τ sig)) := by
  after_results
  rfl

/-! ## The whole program -/

/-- The whole line of operations. -/
abbrev opsAll : List (HloOp τ sig (Elt F)) := opsEnc ++ (opsL0 ++ (opsL1 ++ (opsL2 ++ (opsL3 ++ opsDec))))

/-- A buffer that no stretch writes ends as it began. -/
theorem keepAll {r : Ref sig .tc} (h : r ∉ wEnc ++ (wL0 ++ (wL1 ++ (wL2 ++ (wL3 ++ wDec))))) :
    after opsAll V (r : DevRef τ sig) = V (r : DevRef τ sig) := by
  simp only [List.mem_append, not_or] at h
  obtain ⟨e, ⟨a0, b0⟩, ⟨a1, b1⟩, ⟨a2, b2⟩, ⟨a3, b3⟩, d⟩ := h
  simp only [after_two]
  rw [keepDec d, keepB3 b3, keepA3 a3, keepB2 b2, keepA2 a2, keepB1 b1, keepA1 a1, keepB0 b0, keepA0 a0, keepEnc e]

/-- The four layers' ids and the decoder's arguments, as the last stretch finds them. -/
theorem before_dec :
    after opsL3 (after opsL2 (after opsL1 (after opsL0 (after opsEnc V)))) (main_v20 : DevRef τ sig)
      = ids (enc (V (main_arg0 : DevRef τ sig)) (V (main_arg1 : DevRef τ sig)) (V (main_arg2 : DevRef τ sig))) (book0 (V (main_arg3 : DevRef τ sig)))
    ∧ after opsL3 (after opsL2 (after opsL1 (after opsL0 (after opsEnc V)))) (main_v39 : DevRef τ sig)
      = ids (res1 (enc (V (main_arg0 : DevRef τ sig)) (V (main_arg1 : DevRef τ sig)) (V (main_arg2 : DevRef τ sig))) (V (main_arg3 : DevRef τ sig))) (book1 (V (main_arg3 : DevRef τ sig)))
    ∧ after opsL3 (after opsL2 (after opsL1 (after opsL0 (after opsEnc V)))) (main_v58 : DevRef τ sig)
      = ids (res2 (enc (V (main_arg0 : DevRef τ sig)) (V (main_arg1 : DevRef τ sig)) (V (main_arg2 : DevRef τ sig))) (V (main_arg3 : DevRef τ sig))) (book2 (V (main_arg3 : DevRef τ sig)))
    ∧ after opsL3 (after opsL2 (after opsL1 (after opsL0 (after opsEnc V)))) (main_v77 : DevRef τ sig)
      = ids (res3 (enc (V (main_arg0 : DevRef τ sig)) (V (main_arg1 : DevRef τ sig)) (V (main_arg2 : DevRef τ sig))) (V (main_arg3 : DevRef τ sig))) (book3 (V (main_arg3 : DevRef τ sig))) := by
  have e3 := enc_v3 V
  have a0 := keepEnc (r := main_arg3) (by decide) V
  have a1 := (keepL0 (r := main_arg3) (by decide) (after opsEnc V)).trans a0
  have a2 := (keepL1 (r := main_arg3) (by decide) (after opsL0 (after opsEnc V))).trans a1
  have a3 := (keepL2 (r := main_arg3) (by decide) (after opsL1 (after opsL0 (after opsEnc V)))).trans a2
  have r1 := l0_next (after opsEnc V)
  rw [e3, a0] at r1
  have r2 := l1_next (after opsL0 (after opsEnc V))
  rw [r1, a1] at r2
  have r3 := l2_next (after opsL1 (after opsL0 (after opsEnc V)))
  rw [r2, a2] at r3
  refine ⟨?_, ?_, ?_, ?_⟩
  · rw [keepL3 (r := main_v20) (by decide), keepL2 (r := main_v20) (by decide), keepL1 (r := main_v20) (by decide), l0_ids, e3, a0]
  · rw [keepL3 (r := main_v39) (by decide), keepL2 (r := main_v39) (by decide), l1_ids, r1, a1]; rfl
  · rw [keepL3 (r := main_v58) (by decide), l2_ids, r2, a2]; rfl
  · rw [l3_ids, r3, a3]; rfl

/-- The ids at the end. -/
theorem all_ids : after opsAll V (main_v84 : DevRef τ sig)
    = allIds (enc (V (main_arg0 : DevRef τ sig)) (V (main_arg1 : DevRef τ sig)) (V (main_arg2 : DevRef τ sig))) (V (main_arg3 : DevRef τ sig)) := by
  obtain ⟨h0, h1, h2, h3⟩ := before_dec V
  rw [after_two, after_two, after_two, after_two, after_two, dec_ids, h0, h1, h2, h3]; rfl

/-- The decoded rows at the end. -/
theorem all_out : after opsAll V (main_v89 : DevRef τ sig)
    = decode (allIds (enc (V (main_arg0 : DevRef τ sig)) (V (main_arg1 : DevRef τ sig)) (V (main_arg2 : DevRef τ sig))) (V (main_arg3 : DevRef τ sig)))
        (V (main_arg4 : DevRef τ sig)) (V (main_arg5 : DevRef τ sig)) := by
  obtain ⟨h0, h1, h2, h3⟩ := before_dec V
  rw [after_two, after_two, after_two, after_two, after_two, dec_out, h0, h1, h2, h3,
    keepL3 (r := main_arg4) (by decide), keepL2 (r := main_arg4) (by decide), keepL1 (r := main_arg4) (by decide), keepL0 (r := main_arg4) (by decide), keepEnc (r := main_arg4) (by decide),
    keepL3 (r := main_arg5) (by decide), keepL2 (r := main_arg5) (by decide), keepL1 (r := main_arg5) (by decide), keepL0 (r := main_arg5) (by decide), keepEnc (r := main_arg5) (by decide)]
  rfl

/-- THE RUN of the reference: from any memory with zero counters it ends with the decoded rows and the ids of its
    arguments in its two results, and its arguments unchanged. -/
theorem run (m : (ℓ : Loc nD τ sig) → Buf (Elt F) ℓ) (g : Dev nD → PrngReg) :
    θ_run (defs (F := F)) (onTc (τ := τ) (main (F := F))) ⟨m, fun _ => 0, g⟩ fun r => (∀ c : Dev nD,
      r.2.mem ((c.tc : Thread nD τ).loc main_v89)
        = decode (allIds (enc (m ((c.tc : Thread nD τ).loc main_arg0)) (m ((c.tc : Thread nD τ).loc main_arg1)) (m ((c.tc : Thread nD τ).loc main_arg2)))
            (m ((c.tc : Thread nD τ).loc main_arg3))) (m ((c.tc : Thread nD τ).loc main_arg4)) (m ((c.tc : Thread nD τ).loc main_arg5))
      ∧ r.2.mem ((c.tc : Thread nD τ).loc main_v84)
        = allIds (enc (m ((c.tc : Thread nD τ).loc main_arg0)) (m ((c.tc : Thread nD τ).loc main_arg1)) (m ((c.tc : Thread nD τ).loc main_arg2)))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 := by
  refine θ_run_mono (StableHlo.run_hlo (ops := opsAll) _ _ main_eq (by decide) (by decide) (by simp)
      (by intro _ h; (repeat (cases h with | head => rfl | tail _ h => ?_)); exact nomatch h) _ _) fun r h => ⟨fun c => ?_, ?_⟩
  · rw [h c, h c, h c, h c, h c, h c, h c, h c]
    exact ⟨all_out _, all_ids _, keepAll _ (by decide), keepAll _ (by decide), keepAll _ (by decide), keepAll _ (by decide),
      keepAll _ (by decide), keepAll _ (by decide)⟩
  · exact sem_eq_zero_of_no_sems (by decide) r.2

end Cert.Proof.Ref

end
-- ==== Proof.RefAt.lean ====
/-
  The reference's layer read on one row: its distances, its ids and the residual it hands on are the layer of Spec.lean.
-/
module

public import proofs.«01_k».proof.Proof.RefRun
public import proofs.«01_k».proof.Proof.Spec
public import Idealize.ShloMosaic.Lib.Pointwise
public import Idealize.ShloMosaic.Lib.LaneSum
public import Idealize.ShloMosaic.Lib.Routing.Ops

@[expose] public section

noncomputable section

namespace Cert.Proof.Ref

open Cert.ReferenceIdeal Cert.ReferenceIdeal.Gen
open Idealize.ShloMosaic Idealize.ShloMosaic.TcCoe

/-- Row `i` of the residuals. -/
def row (r : FVec Ideal S4096x256 .f32) (i : Fin 4096) : Fin 256 → EReal := fun c => r (ix2 i c)

/-- The entries of a codebook. -/
def tab (z : FVec Ideal S1024x256 .f32) : Fin 1024 → Fin 256 → EReal := fun k c => z (ix2 k c)

variable (r : FVec Ideal S4096x256 .f32) (z : FVec Ideal S1024x256 .f32)

/-- The word of the factor is 2. -/
theorem two_bits : (Ideal.ofBits .f32 0x40000000#32 : EReal) = 2 := by
  simp [Ideal.ofBits, Ideal.ieee]
  rw [← EReal.coe_mul]
  norm_num
  rfl

/-- The distances. -/
theorem dist_apply (i : Fin 4096) (k : Fin 1024) : dist r z (ix2 i k) = Spec.dist (row r i) (tab z) k := by
  pointwise [dist]
  rw [two_bits]
  rfl

/-! ## The search for the least distance -/

/-- One step of the reference's search is the step of Spec.lean. -/
theorem reducer_eq (a b : EReal × BitVec 32) : reducer_argmin_f32_i32 (F := Ideal) a b = Spec.lesser a b := by
  unfold reducer_argmin_f32_i32 Spec.lesser
  simp only [Ideal.cmpf_def, Ideal.cmp, Scalar.select, IntOp.ori, IntOp.andi, IntOp.cmpi]
  by_cases h1 : a.1 < b.1 <;> by_cases h2 : a.1 = b.1 <;> by_cases h3 : a.2.slt b.2 = true <;> simp [h1, h2, h3]

/-- The rows of a matrix reduce to a column. -/
theorem reduces_row : S4096x1024.Reduces [1] S4096 := by decide

/-- A fold over a list read through `g` is the fold over any other list that reads the same. -/
theorem fold_map {ι κ μ σ : Type*} {l : List ι} {g : ι → κ} {l' : List μ} {g' : μ → κ} (h : l.map g = l'.map g') (f : σ → κ → σ) (s : σ) :
    l.foldl (fun s n => f s (g n)) s = l'.foldl (fun s k => f s (g' k)) s := by
  rw [← List.foldl_map (f := g) (g := f), h, List.foldl_map]

/-- The host's fold of pairs along the rows of a matrix, at a row: the fold over the row's entries, in order. -/
theorem reduce2_row {α β : Type} {d : Fin 2 → ℕ} {t u : Shape} (f : α × β → α × β → α × β) (x : (⟨2, d⟩ : Shape).Idx → α)
    (y : (⟨2, d⟩ : Shape).Idx → β) (ix : u.Idx → α) (iy : u.Idx → β) (h' : (⟨2, d⟩ : Shape).ReducesTo [1] t)
    (h : (⟨2, d⟩ : Shape).Reduces [1] t) (hu : 0 < u.numel) (j : t.Idx) :
    Host.reduce2 f x y ix iy h' hu j
      = (List.finRange (d 1)).foldl (fun s k => f s (x (Shape.pair (h.row j) k), y (Shape.pair (h.row j) k)))
          (ix (Shape.Idx.first hu), iy (Shape.Idx.first hu)) := by
  have hf := Bits.XluNumerics.fiber_row h j
  unfold Bits.XluNumerics.fiber at hf
  rw [List.filter_map] at hf
  exact fold_map hf (fun s i => f s (x i, y i)) _

/-- The `k`-th entry of row `i` is the entry `(i, k)`. -/
theorem pair_row (i : Fin 4096) (k : Fin 1024) : Shape.pair (d := ![4096, 1024]) (reduces_row.row (ix1 i)) k = ix2 i k := by
  funext a
  match a with
  | ⟨0, _⟩ => rfl
  | ⟨1, _⟩ => rfl

/-- A search whose step and start are those of Spec.lean finds the first least entry. -/
theorem search (d : Fin 1024 → EReal) (f : EReal × BitVec 32 → Fin 1024 → EReal × BitVec 32) (s : EReal × BitVec 32)
    (hf : ∀ s k, f s k = Spec.lesser s (d k, BitVec.ofNat 32 k.val)) (hs : s = (⊤, 0#32)) :
    ((List.finRange 1024).foldl f s).2 = BitVec.ofNat 32 (Spec.first d).val := by
  obtain rfl : f = _ := funext fun s => funext fun k => hf s k
  rw [hs, Spec.lesser_finRange]

/-- The id found on row `i`. -/
theorem nearest_apply (d : FVec Ideal S4096x1024 .f32) (i : Fin 4096) :
    nearest d (ix1 i) = BitVec.ofNat 32 (Spec.first fun k => d (ix2 i k)).val := by
  rw [nearest_def, Ideal.argReduce_eq_reduce2]
  beta_reduce
  rw [reduce2_row _ _ _ _ _ _ reduces_row]
  refine search (fun k => d (ix2 i k)) _ _ (fun s k => ?_) (Prod.ext Spec.top_bits rfl)
  rw [reducer_eq, pair_row]
  rfl

/-- A layer's id on row `i` is the nearest entry's. -/
theorem ids_apply (i : Fin 4096) : ids r z (ix1 i) = BitVec.ofNat 32 (Spec.best (row r i) (tab z)).val := by
  unfold ids
  rw [nearest_apply]
  simp only [dist_apply]
  rfl

/-! ## The chosen entry -/

/-- A row number is not negative. -/
theorem not_neg {b : ℕ} (h : b < 1024) : IntOp.cmpi .slt (BitVec.ofNat 32 b) 0#32 = 0#1 := by
  have : (BitVec.ofNat 32 b).slt 0#32 = false := by
    have := Spec.slt_ofNat h (b := 0) (by norm_num)
    simpa using this
  simp [IntOp.cmpi, this]

/-- A row number in range is read as it is. -/
theorem wrapped_apply (n : IVec S4096 32) (i : Fin 4096) (b : Fin 1024) (h : n (ix1 i) = BitVec.ofNat 32 b.val) :
    wrapped n (ix2 i (0 : Fin 1)) = BitVec.ofNat 32 b.val := by
  pointwise [wrapped]
  rw [h, not_neg b.isLt]
  rfl

/-- A row number passes the check of the range. -/
theorem in_range {b : ℕ} (h : b < 1024) :
    IntOp.andi (IntOp.cmpi .sge (BitVec.ofNat 32 b) 0#32) (IntOp.cmpi .sle (BitVec.ofNat 32 b) 1023#32) = 1#1 := by
  have e : (BitVec.ofNat 32 b).toInt = (b : ℤ) := by
    rw [BitVec.toInt_ofNat', Int.bmod_eq_of_le (by omega) (by omega)]
  have h1 : (0#32).sle (BitVec.ofNat 32 b) = true := by
    rw [BitVec.sle_iff_toInt_le, e]; simp
  have h2 : (BitVec.ofNat 32 b).sle 1023#32 = true := by
    rw [BitVec.sle_iff_toInt_le, e, show (1023#32).toInt = 1023 from rfl]; omega
  simp [IntOp.cmpi, IntOp.andi, h1, h2]

/-- The row read at the number `b` is the codebook's row `b`. -/
theorem rows_apply (n : IVec S4096 32) (i : Fin 4096) (c : Fin 256) (b : Fin 1024) (h : n (ix1 i) = BitVec.ofNat 32 b.val) :
    rows z n (ix2 i c) = z (ix2 b c) := by
  have hw := wrapped_apply n i b h
  have hg : Host.gather gather_S1024x256_S4096x1_S4096x256_1_0_n_n_0_1_1256 z (wrapped n) (ix2 i c) = z (ix2 b c) :=
    Routing.gather_row _ rfl rfl rfl rfl rfl z (wrapped n) i c b hw (by norm_num)
  pointwise [rows]
  have hx : ∀ x : Fin 1, wrapped n (ix2 i x) = BitVec.ofNat 32 b.val := fun x => by rw [Subsingleton.elim x 0]; exact hw
  simp only [hx, in_range b.isLt]
  rw [hg]
  rfl

/-- The residual handed on. -/
theorem row_next (i : Fin 4096) : row (next r z) i = Spec.next (row r i) (tab z) := by
  funext c
  show next r z (ix2 i c) = _
  pointwise [next]
  rw [rows_apply z _ i c _ (ids_apply r z i)]
  rfl

/-! ## The four layers -/

/-- The entries of the four codebooks. -/
def books (cb : FVec Ideal S4x1024x256 .f32) : Fin 4 → Fin 1024 → Fin 256 → EReal := fun l k c => cb (ix3 l k c)

variable (cb : FVec Ideal S4x1024x256 .f32)

/-- A codebook cut out of the array holds that codebook's entries. -/
theorem tab_book0 : tab (book0 cb) = books cb 0 := by
  funext k c
  show book0 cb (ix2 k c) = cb (ix3 (0 : Fin 4) k c)
  pointwise [book0]
@[inherit_doc tab_book0] theorem tab_book1 : tab (book1 cb) = books cb 1 := by
  funext k c
  show book1 cb (ix2 k c) = cb (ix3 (1 : Fin 4) k c)
  pointwise [book1]
@[inherit_doc tab_book0] theorem tab_book2 : tab (book2 cb) = books cb 2 := by
  funext k c
  show book2 cb (ix2 k c) = cb (ix3 (2 : Fin 4) k c)
  pointwise [book2]
@[inherit_doc tab_book0] theorem tab_book3 : tab (book3 cb) = books cb 3 := by
  funext k c
  show book3 cb (ix2 k c) = cb (ix3 (3 : Fin 4) k c)
  pointwise [book3]

/-- The four columns side by side, at an index. -/
theorem stack_apply (i0 i1 i2 i3 : IVec S4096 32) (i : Fin 4096) (l : Fin 4) :
    stack i0 i1 i2 i3 (ix2 i l) = ![i0 (ix1 i), i1 (ix1 i), i2 (ix1 i), i3 (ix1 i)] l := by
  fin_cases l <;> pointwise [stack] <;> rfl

/-- The reference's ids are those of Spec.lean. -/
theorem allIds_apply (i : Fin 4096) (l : Fin 4) :
    allIds r cb (ix2 i l) = BitVec.ofNat 32 (Spec.ids (row r i) (books cb) l).val := by
  have h1 : row (res1 r cb) i = Spec.next (row r i) (books cb 0) := by
    unfold res1
    rw [row_next, tab_book0]
  have h2 : row (res2 r cb) i = Spec.next (Spec.next (row r i) (books cb 0)) (books cb 1) := by
    unfold res2
    rw [row_next, tab_book1, h1]
  have h3 : row (res3 r cb) i = Spec.next (Spec.next (Spec.next (row r i) (books cb 0)) (books cb 1)) (books cb 2) := by
    unfold res3
    rw [row_next, tab_book2, h2]
  unfold allIds
  rw [stack_apply, ids_apply, ids_apply, ids_apply, ids_apply, tab_book0, tab_book1, tab_book2, tab_book3, h1, h2, h3]
  fin_cases l <;> rfl

/-- The encoder, at an index. -/
theorem enc_apply (x : FVec Ideal S4096x768 .f32) (W : FVec Ideal S768x256 .f32) (b : FVec Ideal S256 .f32) (i : Fin 4096) (c : Fin 256) :
    enc x W b (ix2 i c) = ∑ k, x (ix2 i k) * W (ix2 k c) + b (ix1 c) := by
  pointwise [enc]

end Cert.Proof.Ref

end
-- ==== Proof.Join.lean ====
/-
  The kernel's ids are the reference's: a block's row is a row of the whole array, and the precondition makes the
  corrections of the first three codebooks vanish.
-/
module

public import proofs.«01_k».proof.Pre_finite_codebooks
public import proofs.«01_k».proof.Proof.KerCells
public import proofs.«01_k».proof.Proof.RefAt

@[expose] public section

noncomputable section

namespace Cert.Proof

open Cert.KernelIdeal Cert.KernelIdeal.Gen
open Idealize.ShloMosaic Idealize.ShloMosaic.TcCoe

/-! ## The precondition -/

/-- The side conditions of the precondition's operations. -/
theorem pre_facts : Cert.Pre_finite_codebooks.Facts := ⟨by decide, by decide⟩

/-- A number whose absolute value is below infinity is finite. -/
theorem finite_of_abs {x : EReal} (h : Ideal.cmp .olt (max x (-x)) ⊤ = 1#1) : x ≠ ⊤ ∧ x ≠ ⊥ := by
  constructor <;> rintro rfl <;> simp [Ideal.cmp] at h

/-- The precondition says that the first three codebooks are finite. -/
theorem finite_books (h : Cert.Pre_finite_codebooks.Facts) (x : FVec Ideal S4096x768 .f32) (W : FVec Ideal S768x256 .f32) (b : FVec Ideal S256 .f32)
    (z : FVec Ideal S4x1024x256 .f32) (U : FVec Ideal S4x256 .f32) (v : FVec Ideal S256 .f32)
    (hp : Cert.Pre_finite_codebooks.fn (F := Ideal) x W b z U v = fun _ => 1#1) (l : Fin 4) (hl : l ≠ 3) (k : Fin 1024) (c : Fin 256) :
    Ker.tabs z l k c ≠ ⊤ ∧ Ker.tabs z l k c ≠ ⊥ := by
  have hl' : l.val < 3 := by
    have := l.isLt
    have : l.val ≠ 3 := fun e => hl (Fin.ext e)
    omega
  have e := congrFun hp (ix3 (⟨l.val, hl'⟩ : Fin 3) k c)
  pointwise [Cert.Pre_finite_codebooks.fn] at e
  rw [Spec.top_bits] at e
  exact finite_of_abs e

/-! ## The rows -/

variable (m : (ℓ : Loc nD τ sig) → Buf (Elt Ideal) ℓ)

/-- The row of the whole array that row `i` of block `t` is. -/
def globalRow (t : Fin cfg0.N) (i : Fin 1024) : Fin 4096 := ⟨1024 * t.val + i.val, by
  have h : t.val < 4 := t.isLt
  omega⟩

/-- The block of inputs at point `t`. -/
theorem iblk0 (c : Dev nD) (t : Fin cfg0.N) (i : Fin 1024) (k : Fin 768) :
    (iblk m c 0 t : FVec Ideal S1024x768 .f32) (ix2 i k)
      = (m ((c : Thread nD τ).loc main_arg0) : FVec Ideal S4096x768 .f32) (ix2 (globalRow t i) k) := by
  rw [← V_main_arg0 m c]
  blk_simp [iblk]
  blk_ext [Ker.index0, globalRow]

/-- Where the ids of row `i` of block `t` go. -/
theorem ids_emb (t : Fin cfg0.N) (i : Fin 1024) (l : Fin 4) : (win0_5.blk t).view.emb (ix2 i l) = ix2 (globalRow t i) l := by
  blk_ext [Ker.index5, globalRow]

/-- A row of a block's first residuals is a row of the reference's. -/
theorem row_first (c : Dev nD) (t : Fin cfg0.N) (i : Fin 1024) :
    Ker.row (Ker.first m c t) i
      = Ref.row (Ref.enc (F := Ideal) (m ((c : Thread nD τ).loc main_arg0)) (m ((c : Thread nD τ).loc main_arg1)) (m ((c : Thread nD τ).loc main_arg2)))
          (globalRow t i) := by
  funext k
  show Ker.first m c t (ix2 i k) = Ref.enc _ _ _ (ix2 (globalRow t i) k)
  rw [Ker.first, Ker.V_bias, Ker.enc_apply, Ref.enc_apply]
  simp only [iblk0]

/-- The ids the two programs find. -/
def allIds (c : Dev nD) : IVec S4096x4 32 :=
  Ref.allIds (F := Ideal) (Ref.enc (F := Ideal) (m ((c : Thread nD τ).loc main_arg0)) (m ((c : Thread nD τ).loc main_arg1)) (m ((c : Thread nD τ).loc main_arg2)))
    (m ((c : Thread nD τ).loc main_arg3))

/-- Every block of the kernel's ids is the reference's, when the first three codebooks are finite. -/
theorem blockAt_eq (hz : ∀ c : Dev nD, ∀ l : Fin 4, l ≠ 3 → ∀ k j, Ker.tabs (Ker.books m c) l k j ≠ ⊤ ∧ Ker.tabs (Ker.books m c) l k j ≠ ⊥)
    (c : Dev nD) (t : Fin cfg0.N) (y : S1024x4.Idx) : Ker.blockAt m c t y = allIds m c ((win0_5.blk t).view.emb y) := by
  obtain ⟨i, l, rfl⟩ : ∃ (i : Fin 1024) (l : Fin 4), y = ix2 i l := ⟨y 0, y 1, eq_ix2 y⟩
  rw [ids_emb, allIds, Ref.allIds_apply, ← row_first]
  unfold Ker.blockAt
  rw [Ker.V_norms]
  exact Ker.blockIds_apply _ _ (hz c) i l

end Cert.Proof

end
-- ==== Proof.lean ====
/-
  The certificate: the generated frames of the kernel, the reference's run, and the equation of the two programs' results
  from Join.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Join
public import Idealize.ShloMosaic.Adequacy
public import Idealize.ShloMosaic.Init

@[expose] public section

noncomputable section

namespace Cert.Proof

open Idealize.ShloMosaic Idealize.SL.Sem

/-- The reference runs, leaves its arguments as they were and every semaphore at zero. -/
theorem frame_reference : Cert.quiescent_ReferenceIdeal := fun m g _ =>
  (θ_run _ _ _).mono (fun _ h => ⟨fun c => (h.1 c).2.2, h.2⟩) (Ref.run m g)

/-- The decoders of the two programs are one function. -/
theorem decode_eq (i : IVec Cert.KernelIdeal.S4096x4 32) (W : FVec Ideal Cert.KernelIdeal.S4x256 .f32) (b : FVec Ideal Cert.KernelIdeal.S256 .f32) :
    Ref.decode (F := Ideal) i W b = Ker.decode i W b := rfl

/-- Kernel and reference end with the same two results, when the first three codebooks are finite. -/
theorem same_results : Cert.algebraic_KernelIdeal_ReferenceIdeal_pre_finite_codebooks (hPre_finite_codebooks := pre_facts) := by
  intro m g m' g' hp ha
  have hz : ∀ c : Dev Cert.KernelIdeal.nD, ∀ l : Fin 4, l ≠ 3 → ∀ k j, Ker.tabs (Ker.books m c) l k j ≠ ⊤ ∧ Ker.tabs (Ker.books m c) l k j ≠ ⊥ :=
    fun c => finite_books pre_facts _ _ _ _ _ _ (hp c)
  refine ⟨_, _, Ker.run m g (fun c => allIds m c) (blockAt_eq m hz), ?_⟩
  refine (θ_run _ _ _).mono (fun r h c => ?_) (Ref.run m' g')
  obtain ⟨h0, h1, hk⟩ := h.1 c
  obtain ⟨a0, a1, a2, a3, a4, a5⟩ := ha c
  refine ⟨h0.trans ?_, h1.trans ?_, hk⟩
  · rw [a0, a1, a2, a3, a4, a5]
    exact decode_eq _ _ _
  · rw [a0, a1, a2, a3]
    rfl

theorem claim : Cert.Claim :=
  ⟨Cert.Kernel.Gen.facts, Cert.KernelIdeal.Gen.facts, Cert.ReferenceIdeal.Gen.facts, pre_facts,
    fun m g _ => Cert.Kernel.Gen.frame m g, fun m g _ => Cert.KernelIdeal.Gen.frame m g, fun m g _ => Cert.KernelIdeal.Gen.frame m g,
    frame_reference, fun m g _ => frame_reference m g trivial, trivial, same_results⟩

end Cert.Proof

end
